-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512 : Shape := ⟨2, ![8, 512]⟩
abbrev S113x512 : Shape := ⟨2, ![113, 512]⟩
abbrev S1536x512 : Shape := ⟨2, ![1536, 512]⟩
abbrev S1536 : Shape := ⟨1, ![1536]⟩
abbrev S113 : Shape := ⟨1, ![113]⟩
abbrev S1x512 : Shape := ⟨2, ![1, 512]⟩
abbrev S512x1536 : Shape := ⟨2, ![512, 1536]⟩
abbrev S1x1536 : Shape := ⟨2, ![1, 1536]⟩
abbrev S_ : Shape := ⟨0, ![]⟩
abbrev S512x128 : Shape := ⟨2, ![512, 128]⟩
abbrev S512x113 : Shape := ⟨2, ![512, 113]⟩
abbrev S1 : Shape := ⟨1, ![1]⟩
abbrev S1x128 : Shape := ⟨2, ![1, 128]⟩
abbrev S1x113 : Shape := ⟨2, ![1, 113]⟩
abbrev S1608x128 : Shape := ⟨2, ![1608, 128]⟩
abbrev S201x8x1536 : Shape := ⟨3, ![201, 8, 1536]⟩
abbrev S1608x512 : Shape := ⟨2, ![1608, 512]⟩
abbrev S8x1536 : Shape := ⟨2, ![8, 1536]⟩
abbrev S1x8x1536 : Shape := ⟨3, ![1, 8, 1536]⟩
abbrev S8x1024 : Shape := ⟨2, ![8, 1024]⟩
abbrev S201x8x128 : Shape := ⟨3, ![201, 8, 128]⟩
abbrev S201x8x113 : Shape := ⟨3, ![201, 8, 113]⟩
abbrev S8x113x201 : Shape := ⟨3, ![8, 113, 201]⟩

abbrev nBuf : Space → Nat
  | .hbm => 29
  | .vmem => 11
  | .smem => 0
  | _ => 0

abbrev bufTy : (tb : Table) → Fin (tcTables nBuf tb) → BufTy
  | .hbm, ⟨0, _⟩ => ⟨S8x512, .f32⟩
  | .hbm, ⟨1, _⟩ => ⟨S113x512, .f32⟩
  | .hbm, ⟨2, _⟩ => ⟨S1536x512, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S113x512, .f32⟩
  | .hbm, ⟨7, _⟩ => ⟨S113, .f32⟩
  | .hbm, ⟨8, _⟩ => ⟨S1x512, .f32⟩
  | .hbm, ⟨9, _⟩ => ⟨S512x1536, .f32⟩
  | .hbm, ⟨10, _⟩ => ⟨S512x1536, .f32⟩
  | .hbm, ⟨11, _⟩ => ⟨S1x1536, .f32⟩
  | .hbm, ⟨12, _⟩ => ⟨S1x1536, .f32⟩
  | .hbm, ⟨13, _⟩ => ⟨S_, .f32⟩
  | .hbm, ⟨14, _⟩ => ⟨S512x128, .f32⟩
  | .hbm, ⟨15, _⟩ => ⟨S512x113, .f32⟩
  | .hbm, ⟨16, _⟩ => ⟨S_, .i32⟩
  | .hbm, ⟨17, _⟩ => ⟨S1, .i32⟩
  | .hbm, ⟨18, _⟩ => ⟨S512x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S1x113, .f32⟩
  | .hbm, ⟨24, _⟩ => ⟨S1x128, .f32⟩
  | .hbm, ⟨25, _⟩ => ⟨S1608x128, .f32⟩
  | .hbm, ⟨26, _⟩ => ⟨S201x8x128, .f32⟩
  | .hbm, ⟨27, _⟩ => ⟨S201x8x113, .f32⟩
  | .hbm, ⟨28, _⟩ => ⟨S8x113x201, .f32⟩
  | .local _ .vmem, ⟨0, _⟩ => ⟨S8x512, .f32⟩
  | .local _ .vmem, ⟨1, _⟩ => ⟨S1x512, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S1x1536, .f32⟩
  | .local _ .vmem, ⟨6, _⟩ => ⟨S512x128, .f32⟩
  | .local _ .vmem, ⟨7, _⟩ => ⟨S1x128, .f32⟩
  | .local _ .vmem, ⟨8, _⟩ => ⟨S1608x128, .f32⟩
  | .local _ .vmem, ⟨9, _⟩ => ⟨S201x8x1536, .f32⟩
  | .local _ .vmem, ⟨10, _⟩ => ⟨S1608x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c200_i32 : BitVec 32 := 200#32
  let v25 : BitVec 32 := Scalar.addi c0_i32 c200_i32
  let c1_i32 : BitVec 32 := 1#32
  ⟨c0_i32, v25, c1_i32⟩
@[reducible] def k0_t2_loop (k0_t1 : Fin k0_t1_loop.trips) : Scf.Loop 32 :=
  let c0_i32_29 : BitVec 32 := 0#32
  let c0_i32 : BitVec 32 := 0#32
  let c1_i32 : BitVec 32 := 1#32
  let arg11 : BitVec 32 := Scf.iv c0_i32 c1_i32 k0_t1
  let c1_i32_28 : BitVec 32 := 1#32
  let v36 : BitVec 32 := Scalar.addi arg11 c1_i32_28
  let v37 : BitVec 32 := Scalar.subi v36 c0_i32_29
  let c1_i32_30 : BitVec 32 := 1#32
  let v39 : BitVec 32 := Scalar.divsi v37 c1_i32_30
  let v40 : BitVec 32 := Scalar.muli v39 c1_i32_30
  let v41 : BitVec 32 := Scalar.addi c0_i32_29 v40
  let c1_i32_31 : BitVec 32 := 1#32
  ⟨c0_i32_29, v41, c1_i32_31⟩
def k0_off1 (k0_t1 : Fin k0_t1_loop.trips) (k0_t2 : Fin (k0_t2_loop k0_t1).trips) : Fin 3 → Nat :=
  let c0_i32_29 : BitVec 32 := 0#32
  let c1_i32_31 : BitVec 32 := 1#32
  let arg13 : BitVec 32 := Scf.iv c0_i32_29 c1_i32_31 k0_t2
  let v58 : Index := Scalar.indexCast arg13
  let c0_39 : Index := 0#32
  let c0_40 : Index := 0#32
  ![v58.toNat, 0, 0]
@[reducible] def k0_t3_loop (k0_t1 : Fin k0_t1_loop.trips) : Scf.Loop 32 :=
  let c0_i32_29 : BitVec 32 := 0#32
  let c0_i32 : BitVec 32 := 0#32
  let c1_i32 : BitVec 32 := 1#32
  let arg11 : BitVec 32 := Scf.iv c0_i32 c1_i32 k0_t1
  let c1_i32_28 : BitVec 32 := 1#32
  let v36 : BitVec 32 := Scalar.addi arg11 c1_i32_28
  let v37 : BitVec 32 := Scalar.subi v36 c0_i32_29
  let c1_i32_30 : BitVec 32 := 1#32
  let v39 : BitVec 32 := Scalar.divsi v37 c1_i32_30
  let v40 : BitVec 32 := Scalar.muli v39 c1_i32_30
  let v41 : BitVec 32 := Scalar.addi c0_i32_29 v40
  let v38 : BitVec 32 := Scalar.addi c0_i32_29 v37
  let c1_i32_32 : BitVec 32 := 1#32
  ⟨v41, v38, c1_i32_32⟩
def k0_off2 (k0_t1 : Fin k0_t1_loop.trips) (k0_t3 : Fin (k0_t3_loop k0_t1).trips) : Fin 3 → Nat :=
  let c0_i32_29 : BitVec 32 := 0#32
  let c0_i32 : BitVec 32 := 0#32
  let c1_i32 : BitVec 32 := 1#32
  let arg11 : BitVec 32 := Scf.iv c0_i32 c1_i32 k0_t1
  let c1_i32_28 : BitVec 32 := 1#32
  let v36 : BitVec 32 := Scalar.addi arg11 c1_i32_28
  let v37 : BitVec 32 := Scalar.subi v36 c0_i32_29
  let c1_i32_30 : BitVec 32 := 1#32
  let v39 : BitVec 32 := Scalar.divsi v37 c1_i32_30
  let v40 : BitVec 32 := Scalar.muli v39 c1_i32_30
  let v41 : BitVec 32 := Scalar.addi c0_i32_29 v40
  let c1_i32_32 : BitVec 32 := 1#32
  let arg13 : BitVec 32 := Scf.iv v41 c1_i32_32 k0_t3
  let v58 : Index := Scalar.indexCast arg13
  let c0_39 : Index := 0#32
  let c0_40 : Index := 0#32
  ![v58.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v47 : BitVec 32 := Scalar.addi arg11 c1_i32_34
  let v48 : Index := Scalar.indexCast v47
  let c0_35 : Index := 0#32
  let c0_36 : Index := 0#32
  ![v48.toNat, 0, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_37 : BitVec 32 := 1#32
  let v52 : BitVec 32 := Scalar.addi arg11 c1_i32_37
  let c8_i32 : BitVec 32 := 8#32
  let v53 : BitVec 32 := Scalar.muli v52 c8_i32
  let v54 : Index := Scalar.indexCast v53
  let c0_38 : Index := 0#32
  ![v54.toNat, 0]
abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1608x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S8x512 : Shape := ⟨2, ![8, 512]⟩
abbrev S113x512 : Shape := ⟨2, ![113, 512]⟩
abbrev S1536x512 : Shape := ⟨2, ![1536, 512]⟩
abbrev S1536 : Shape := ⟨1, ![1536]⟩
abbrev S113 : Shape := ⟨1, ![113]⟩
abbrev S1x512 : Shape := ⟨2, ![1, 512]⟩
abbrev S512 : Shape := ⟨1, ![512]⟩
abbrev S_ : Shape := ⟨0, ![]⟩
abbrev S201x8x1536 : Shape := ⟨3, ![201, 8, 1536]⟩
abbrev S512x1536 : Shape := ⟨2, ![512, 1536]⟩
abbrev S8x1536 : Shape := ⟨2, ![8, 1536]⟩
abbrev S1x1536 : Shape := ⟨2, ![1, 1536]⟩
abbrev S1 : Shape := ⟨1, ![1]⟩
abbrev S201x8x512 : Shape := ⟨3, ![201, 8, 512]⟩
abbrev S1x8x1536 : Shape := ⟨3, ![1, 8, 1536]⟩
abbrev S113x201x8 : Shape := ⟨3, ![113, 201, 8]⟩
abbrev S8x113x201 : Shape := ⟨3, ![8, 113, 201]⟩
abbrev S1x113x1 : Shape := ⟨3, ![1, 113, 1]⟩

abbrev nBuf : Space → Nat
  | .hbm => 145
  | .vmem => 0
  | .smem => 0
  | _ => 0

abbrev hbmTy0_0 (i : Nat) : BufTy := match i % 128 with
  | 0 => ⟨S8x512, .f32⟩
  | 1 => ⟨S113x512, .f32⟩
  | 2 => ⟨S1536x512, .f32⟩
  | 3 => ⟨S1536x512, .f32⟩
  | 4 => ⟨S1536, .f32⟩
  | 5 => ⟨S1536, .f32⟩
  | 6 => ⟨S113x512, .f32⟩
  | 7 => ⟨S113, .f32⟩
  | 8 => ⟨S1x512, .f32⟩
  | 9 => ⟨S512, .f32⟩
  | 10 => ⟨S8x512, .f32⟩
  | 11 => ⟨S_, .f32⟩
  | 12 => ⟨S201x8x1536, .f32⟩
  | 13 => ⟨S512x1536, .f32⟩
  | 14 => ⟨S8x1536, .f32⟩
  | 15 => ⟨S1x1536, .f32⟩
  | 16 => ⟨S8x1536, .f32⟩
  | 17 => ⟨S8x1536, .f32⟩
  | 18 => ⟨S_, .i32⟩
  | 19 => ⟨S1, .i32⟩
  | 20 => ⟨S201x8x1536, .f32⟩
  | 21 => ⟨S_, .f32⟩
  | 22 => ⟨S201x8x512, .f32⟩
  | 23 => ⟨S_, .i32⟩
  | 24 => ⟨S1, .i32⟩
  | 25 => ⟨S201x8x512, .f32⟩
  | 26 => ⟨S_, .i32⟩
  | 27 => ⟨S_, .i32⟩
  | 28 => ⟨S1536x512, .f32⟩
  | 29 => ⟨S1536, .f32⟩
  | 30 => ⟨S1536x512, .f32⟩
  | 31 => ⟨S1536, .f32⟩
  | 32 => ⟨S_, .i32⟩
  | 33 => ⟨S_, .i32⟩
  | 34 => ⟨S201x8x1536, .f32⟩
  | 35 => ⟨S201x8x512, .f32⟩
  | 36 => ⟨S8x512, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x8x1536, .f32⟩
  | 68 => ⟨S8x1536, .f32⟩
  | 69 => ⟨S512x1536, .f32⟩
  | 70 => ⟨S8x1536, .f32⟩
  | 71 => ⟨S1x1536, .f32⟩
  | 72 => ⟨S8x1536, .f32⟩
  | 73 => ⟨S8x1536, .f32⟩
  | 74 => ⟨S8x512, .f32⟩
  | 75 => ⟨S8x512, .f32⟩
  | 76 => ⟨S8x512, .f32⟩
  | 77 => ⟨S8x512, .f32⟩
  | 78 => ⟨S8x512, .f32⟩
  | 79 => ⟨S8x512, .f32⟩
  | 80 => ⟨S8x512, .f32⟩
  | 81 => ⟨S8x512, .f32⟩
  | 82 => ⟨S8x512, .f32⟩
  | 83 => ⟨S_, .f32⟩
  | 84 => ⟨S8x512, .f32⟩
  | 85 => ⟨S8x512, .f32⟩
  | 86 => ⟨S_, .f32⟩
  | 87 => ⟨S8x512, .f32⟩
  | 88 => ⟨S8x512, .f32⟩
  | 89 => ⟨S8x512, .f32⟩
  | 90 => ⟨S8x512, .f32⟩
  | 91 => ⟨S8x512, .f32⟩
  | 92 => ⟨S_, .f32⟩
  | 93 => ⟨S8x512, .f32⟩
  | 94 => ⟨S8x512, .f32⟩
  | 95 => ⟨S_, .f32⟩
  | 96 => ⟨S8x512, .f32⟩
  | 97 => ⟨S8x512, .f32⟩
  | 98 => ⟨S8x512, .f32⟩
  | 99 => ⟨S8x512, .f32⟩
  | 100 => ⟨S8x512, .f32⟩
  | 101 => ⟨S_, .f32⟩
  | 102 => ⟨S8x512, .f32⟩
  | 103 => ⟨S8x512, .f32⟩
  | 104 => ⟨S8x512, .f32⟩
  | 105 => ⟨S8x512, .f32⟩
  | 106 => ⟨S8x512, .f32⟩
  | 107 => ⟨S_, .i1⟩
  | 108 => ⟨S8x512, .f32⟩
  | 109 => ⟨S_, .i32⟩
  | 110 => ⟨S_, .i1⟩
  | 111 => ⟨S_, .i32⟩
  | 112 => ⟨S_, .i32⟩
  | 113 => ⟨S512x1536, .f32⟩
  | 114 => ⟨S8x1536, .f32⟩
  | 115 => ⟨S1x1536, .f32⟩
  | 116 => ⟨S8x1536, .f32⟩
  | 117 => ⟨S8x1536, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1, .i32⟩
  | 125 => ⟨S201x8x1536, .f32⟩
  | 126 => ⟨S201x8x1536, .f32⟩
  | 127 => ⟨S_, .i32⟩
  | _ => ⟨S8x512, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1, .i32⟩
  | 8 => ⟨S201x8x512, .f32⟩
  | 9 => ⟨S201x8x512, .f32⟩
  | 10 => ⟨S_, .i32⟩
  | 11 => ⟨S_, .i32⟩
  | 12 => ⟨S113x201x8, .f32⟩
  | 13 => ⟨S8x113x201, .f32⟩
  | 14 => ⟨S1x113x1, .f32⟩
  | 15 => ⟨S8x113x201, .f32⟩
  | 16 => ⟨S8x113x201, .f32⟩
  | _ => ⟨S8x512, .f32⟩

abbrev hbmTy (i : Nat) : BufTy := match i / 128 with
  | 0 => hbmTy0_0 i
  | 1 => hbmTy0_1 i
  | _ => ⟨S8x512, .f32⟩

abbrev bufTy : (tb : Table) → Fin (tcTables nBuf tb) → BufTy
  | .hbm, ⟨i, _⟩ => hbmTy i
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_c_3 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev main_v14_7 : Ref sig .tc := ⟨.hbm, 35, rfl⟩
abbrev main_v14_8 : Ref sig .tc := ⟨.hbm, 36, rfl⟩
abbrev main_while0c_c_12 : Ref sig .tc := ⟨.hbm, 37, rfl⟩
abbrev main_while0c_v20 : Ref sig .tc := ⟨.hbm, 38, rfl⟩
abbrev main_while0b_c_12 : Ref sig .tc := ⟨.hbm, 39, rfl⟩
abbrev main_while0b_v20 : Ref sig .tc := ⟨.hbm, 40, rfl⟩
abbrev main_while0b_c_13 : Ref sig .tc := ⟨.hbm, 41, rfl⟩
abbrev main_while0b_v21 : Ref sig .tc := ⟨.hbm, 42, rfl⟩
abbrev main_while0b_c_14 : Ref sig .tc := ⟨.hbm, 43, rfl⟩
abbrev main_while0b_v22 : Ref sig .tc := ⟨.hbm, 44, rfl⟩
abbrev main_while0b_v23 : Ref sig .tc := ⟨.hbm, 45, rfl⟩
abbrev main_while0b_c_15 : Ref sig .tc := ⟨.hbm, 46, rfl⟩
abbrev main_while0b_v24 : Ref sig .tc := ⟨.hbm, 47, rfl⟩
abbrev main_while0b_c_16 : Ref sig .tc := ⟨.hbm, 48, rfl⟩
abbrev main_while0b_v25 : Ref sig .tc := ⟨.hbm, 49, rfl⟩
abbrev main_while0b_v26 : Ref sig .tc := ⟨.hbm, 50, rfl⟩
abbrev main_while0b_c_17 : Ref sig .tc := ⟨.hbm, 51, rfl⟩
abbrev main_while0b_c_18 : Ref sig .tc := ⟨.hbm, 52, rfl⟩
abbrev main_while0b_v27 : Ref sig .tc := ⟨.hbm, 53, rfl⟩
abbrev main_while0b_c_19 : Ref sig .tc := ⟨.hbm, 54, rfl⟩
abbrev main_while0b_c_20 : Ref sig .tc := ⟨.hbm, 55, rfl⟩
abbrev main_while0b_v28 : Ref sig .tc := ⟨.hbm, 56, rfl⟩
abbrev main_while0b_c_21 : Ref sig .tc := ⟨.hbm, 57, rfl⟩
abbrev main_while0b_v29 : Ref sig .tc := ⟨.hbm, 58, rfl⟩
abbrev main_while0b_c_22 : Ref sig .tc := ⟨.hbm, 59, rfl⟩
abbrev main_while0b_c_23 : Ref sig .tc := ⟨.hbm, 60, rfl⟩
abbrev main_while0b_v30 : Ref sig .tc := ⟨.hbm, 61, rfl⟩
abbrev main_while0b_c_24 : Ref sig .tc := ⟨.hbm, 62, rfl⟩
abbrev main_while0b_c_25 : Ref sig .tc := ⟨.hbm, 63, rfl⟩
abbrev main_while0b_v31 : Ref sig .tc := ⟨.hbm, 64, rfl⟩
abbrev main_while0b_c_26 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_v41 : Ref sig .tc := ⟨.hbm, 75, rfl⟩
abbrev main_while0b_v42 : Ref sig .tc := ⟨.hbm, 76, rfl⟩
abbrev main_while0b_v43 : Ref sig .tc := ⟨.hbm, 77, rfl⟩
abbrev main_while0b_v44 : Ref sig .tc := ⟨.hbm, 78, rfl⟩
abbrev main_while0b_v45 : Ref sig .tc := ⟨.hbm, 79, rfl⟩
abbrev main_while0b_v46 : Ref sig .tc := ⟨.hbm, 80, rfl⟩
abbrev main_while0b_v47 : Ref sig .tc := ⟨.hbm, 81, rfl⟩
abbrev main_while0b_v48 : Ref sig .tc := ⟨.hbm, 82, rfl⟩
abbrev main_while0b_cst_27 : Ref sig .tc := ⟨.hbm, 83, rfl⟩
abbrev main_while0b_v49 : Ref sig .tc := ⟨.hbm, 84, rfl⟩
abbrev main_while0b_v50 : Ref sig .tc := ⟨.hbm, 85, rfl⟩
abbrev main_while0b_cst_28 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_cst_29 : Ref sig .tc := ⟨.hbm, 92, rfl⟩
abbrev main_while0b_v56 : Ref sig .tc := ⟨.hbm, 93, rfl⟩
abbrev main_while0b_v57 : Ref sig .tc := ⟨.hbm, 94, rfl⟩
abbrev main_while0b_cst_30 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_cst_31 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_c_32 : Ref sig .tc := ⟨.hbm, 109, rfl⟩
abbrev main_while0b_v70 : Ref sig .tc := ⟨.hbm, 110, rfl⟩
abbrev main_while0b_c_33 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_c_34 : Ref sig .tc := ⟨.hbm, 118, rfl⟩
abbrev main_while0b_v77 : Ref sig .tc := ⟨.hbm, 119, rfl⟩
abbrev main_while0b_c_35 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_c_36 : Ref sig .tc := ⟨.hbm, 127, rfl⟩
abbrev main_while0b_v84 : Ref sig .tc := ⟨.hbm, 128, rfl⟩
abbrev main_while0b_c_37 : Ref sig .tc := ⟨.hbm, 129, rfl⟩
abbrev main_while0b_v85 : Ref sig .tc := ⟨.hbm, 130, rfl⟩
abbrev main_while0b_c_38 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_c_39 : Ref sig .tc := ⟨.hbm, 138, rfl⟩
abbrev main_while0b_v92 : Ref sig .tc := ⟨.hbm, 139, rfl⟩
abbrev main_v15 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩

abbrev nD : Nat := 1
abbrev τ : Topo := Topo.v7x

variable {F : FTy → Type} [FloatOps F]

abbrev main_while0_count : Scf.Loop 32 := ⟨0#32, 40200#32, 1#32⟩
-- ==== Proof.Spec.lean ====
/- What the decoding kernel computes, as plain functions of its windows: the hidden state after every outer trip, the
   projections and hidden states recorded so far, and the output block. Nothing here speaks of memory. -/
module

public import proofs.«01_k».proof.Proof.Gen.KernelIdeal.Skeleton
public import Idealize.ShloMosaic.Lib.ValueIdxCore

@[expose] public section

noncomputable section

namespace Cert.KernelIdeal.Hand

open Idealize.ShloMosaic Idealize.ShloMosaic.ValueIdx
open Cert.KernelIdeal.Gen

variable {F : FTy → Type} [FloatOps F]

/-- The windows the recurrence reads: the features, the start embedding, the two transposed weight matrices and the two
    bias rows. -/
structure Args (F : FTy → Type) [FloatOps F] where
  feat : Vec F S8x512 .f32
  sos : Vec F S1x512 .f32
  wih : Vec F S512x1536 .f32
  whh : Vec F S512x1536 .f32
  bih : Vec F S1x1536 .f32
  bhh : Vec F S1x1536 .f32

/-- The hidden state, and for every position the projected input row and the hidden state recorded there. -/
structure State (F : FTy → Type) [FloatOps F] where
  h : Vec F S8x512 .f32
  xp : ℕ → Vec F S1x8x1536 .f32
  sq : ℕ → Vec F S8x512 .f32

/-- The hidden state after the first `n` cells over the projections `X`, starting from `h`. -/
def cells (a : Args F) (X : ℕ → Vec F S1x8x1536 .f32) (h : Vec F S8x512 .f32) : ℕ → Vec F S8x512 .f32
  | 0 => h
  | n + 1 => k0_pay8 a.whh a.bhh (cells a X h n) (X n)

/-- The state after outer trip `t`: the cells run over the first `t + 1` projections, and the new hidden state is
    projected and recorded at position `t + 1`. -/
def next (a : Args F) (t : ℕ) (s : State F) : State F :=
  { h := cells a s.xp s.h (t + 1)
    xp := Function.update s.xp (t + 1) (k0_pay10 a.wih a.bih (cells a s.xp s.h (t + 1)))
    sq := Function.update s.sq (t + 1) (k0_pay11 (cells a s.xp s.h (t + 1))) }

/-- The state before outer trip `t`: at the start the features, with the start embedding at position 0. -/
def st (a : Args F) : ℕ → State F
  | 0 => { h := a.feat, xp := fun _ => k0_pay6 a.wih a.bih a.sos, sq := fun _ => k0_pay7 a.sos }
  | t + 1 => next a t (st a t)

/-- The recorded hidden states, one block of eight rows per position. -/
def seqRows (s : State F) : Vec F S1608x512 .f32 := fun y =>
  s.sq ((y (0 : Fin 2)).val / 8) (ix2 ⟨(y (0 : Fin 2)).val % 8, Nat.mod_lt _ (by decide)⟩ (y (1 : Fin 2)))

/-- The recorded projections, one slab per position. -/
def projSlabs (s : State F) : Vec F S201x8x1536 .f32 := fun y =>
  s.xp (y (0 : Fin 3)).val (ix3 0 (y (1 : Fin 3)) (y (2 : Fin 3)))

/-- The output block: all recorded hidden states times the padded projection, plus its padded bias. -/
def outBlock (a : Args F) (pw : Vec F S512x128 .f32) (pb : Vec F S1x128 .f32) : Vec F S1608x128 .f32 :=
  k0_pay1 (seqRows (st a 200)) (k0_pay12 pw) pb

/-- Only the projections below `n` matter to the first `n` cells. -/
theorem cells_congr (a : Args F) {X Y : ℕ → Vec F S1x8x1536 .f32} (h : Vec F S8x512 .f32) (n : ℕ)
    (e : ∀ j, j < n → X j = Y j) : cells a X h n = cells a Y h n := by
  induction n with
  | zero => rfl
  | succ n ih => rw [cells, cells, ih fun j hj => e j (by omega), e n (by omega)]

/-- The scratch buffers `x9`, `x10` hold the projections and hidden states of the positions up to `k`. -/
structure Holds (s : State F) (k : ℕ) (x9 : Vec F S201x8x1536 .f32) (x10 : Vec F S1608x512 .f32) : Prop where
  proj : ∀ y : S201x8x1536.Idx, (y (0 : Fin 3)).val ≤ k → x9 y = projSlabs s y
  seq : ∀ y : S1608x512.Idx, (y (0 : Fin 2)).val < 8 * (k + 1) → x10 y = seqRows s y

end Cert.KernelIdeal.Hand

end

end
-- ==== Proof.Outer.lean ====
module

public import proofs.«01_k».proof.Proof.Gen.KernelIdeal.Frame
public import proofs.«01_k».proof.Proof.Gen.KernelIdeal.Loops
public import proofs.«01_k».proof.Proof.Spec
public import Idealize.ShloMosaic.Lib.WritesUnit
public import Idealize.ShloMosaic.Lib.LoopRemainder

/-! The outer loop of the kernel: one trip runs the cells over the projections recorded so far and records the new hidden
state and its projection in the two scratch buffers. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ (UR sig nD τ) ℕ

/-- The outer loop makes 200 trips. -/
theorem t1_trips : k0_t1_loop.trips = 200 := by decide

/-- Outer trip `t` runs the inner loop over `t + 1` trips. -/
theorem t2_trips : ∀ t : Fin k0_t1_loop.trips, (k0_t2_loop t).trips = t.val + 1 := by decide

/-- Outer trip `t` stores its projection at slab `t + 1`. -/
theorem off3_eq : ∀ t : Fin k0_t1_loop.trips, k0_off3 t = ![t.val + 1, 0, 0] := by decide

/-- Outer trip `t` stores its hidden state at the eight rows from `8 * (t + 1)`. -/
theorem off4_eq : ∀ t : Fin k0_t1_loop.trips, k0_off4 t = ![8 * (t.val + 1), 0] := by decide

/-- Inner trip `k` reads slab `k`. -/
theorem off1_eq (t : Fin k0_t1_loop.trips) (k : Fin (k0_t2_loop t).trips) : k0_off1 t k = ![k.val, 0, 0] := by
  have hk : k.val < 201 := by have := k.isLt; have := t2_trips t; have := t.isLt; have := t1_trips; omega
  have h : ∀ n : Fin 201, (Scalar.indexCast (Scf.iv 0#32 1#32 n.val) : Index).toNat = n.val := by decide
  show ![(Scalar.indexCast (Scf.iv 0#32 1#32 k.val) : Index).toNat, 0, 0] = ![k.val, 0, 0]
  rw [h ⟨k.val, hk⟩]

/-- One inner trip is one cell over the slab it loads. -/
theorem trip_eq (c : Dev nD) (arg0 : Memref sig .tc .vmem S8x512 .f32) (harg0 : arg0.IsWhole) (arg1 : Memref sig .tc .vmem S1x512 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1x1536 .f32) (harg4 : arg4.IsWhole) (arg5 : Memref sig .tc .vmem S1x1536 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1608x128 .f32) (harg8 : arg8.IsWhole) (arg9 : Memref sig .tc .vmem S201x8x1536 .f32) (harg9 : arg9.IsWhole) (arg10 : Memref sig .tc .vmem S1608x512 .f32) (harg10 : arg10.IsWhole) (v2 : Vec F S512x1536 .f32) (v6 : Vec F S1x1536 .f32) (t : Fin k0_t1_loop.trips)
    (X : BufTy.Contents (Elt F) arg9.view.ty) (k : Fin (k0_t2_loop t).trips) (acc : Vec F S8x512 .f32) :
    tripR_k0_t2 (F := F) Variants.none c none arg0 harg0 arg1 harg1 arg2 harg2 arg3 harg3 arg4 harg4 arg5 harg5 arg6 harg6 arg7 harg7 arg8 harg8 arg9 harg9 arg10 harg10 v2 v6 t X k acc
      = k0_pay8 v2 v6 acc (arg9.view.readAt (Elt F) (Rect.unit (s := S201x8x1536) (k0_off1 t k) S1x8x1536.size (k0_off1_inb t k)).toLoadRect X) := by
  unfold tripR_k0_t2 trip_k0_t2; rfl

/-- The slab an inner trip loads, off a scratch that holds the projections up to `t`. -/
theorem slab_eq (arg9 : Memref sig .tc .vmem S201x8x1536 .f32) (s : State F) (t : Fin k0_t1_loop.trips)
    (X : BufTy.Contents (Elt F) arg9.view.ty) (k : Fin (k0_t2_loop t).trips)
    (h : ∀ y : S201x8x1536.Idx, (y (0 : Fin 3)).val ≤ t.val → arg9.view.read (Elt F) X y = projSlabs s y) :
    arg9.view.readAt (Elt F) (Rect.unit (s := S201x8x1536) (k0_off1 t k) S1x8x1536.size (k0_off1_inb t k)).toLoadRect X = s.xp k.val := by
  have e0 : k0_off1 t k 0 = k.val := by rw [off1_eq]; rfl
  have e1 : k0_off1 t k 1 = 0 := by rw [off1_eq]; rfl
  have e2 : k0_off1 t k 2 = 0 := by rw [off1_eq]; rfl
  have hk : k.val ≤ t.val := by have := k.isLt; have := t2_trips t; omega
  funext y
  have hy0 : (y (0 : Fin 3)).val = 0 := by have : (y (0 : Fin 3)).val < 1 := (y (0 : Fin 3)).isLt; omega
  have i0 : (((Rect.unit (s := S201x8x1536) (k0_off1 t k) S1x8x1536.size (k0_off1_inb t k)).toLoadRect.idx y) (0 : Fin 3)).val = k.val := by
    show k0_off1 t k 0 + 1 * (y (0 : Fin 3)).val = _
    omega
  rw [View.readAt_apply, h _ (by rw [i0]; exact hk)]
  unfold projSlabs
  rw [i0]
  congr 1
  funext d
  match d with
  | ⟨0, _⟩ => exact Fin.ext hy0.symm
  | ⟨1, _⟩ => exact Fin.ext (by show k0_off1 t k 1 + 1 * (y (1 : Fin 3)).val = _; rw [e1, Nat.zero_add, Nat.one_mul]; rfl)
  | ⟨2, _⟩ => exact Fin.ext (by show k0_off1 t k 2 + 1 * (y (2 : Fin 3)).val = _; rw [e2, Nat.zero_add, Nat.one_mul]; rfl)

/-- The inner loop's carried value before trip `n` is the first `n` cells. -/
theorem inner_eq (c : Dev nD) (arg0 : Memref sig .tc .vmem S8x512 .f32) (harg0 : arg0.IsWhole) (arg1 : Memref sig .tc .vmem S1x512 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1x1536 .f32) (harg4 : arg4.IsWhole) (arg5 : Memref sig .tc .vmem S1x1536 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1608x128 .f32) (harg8 : arg8.IsWhole) (arg9 : Memref sig .tc .vmem S201x8x1536 .f32) (harg9 : arg9.IsWhole) (arg10 : Memref sig .tc .vmem S1608x512 .f32) (harg10 : arg10.IsWhole) (a : Args F) (s : State F) (t : Fin k0_t1_loop.trips)
    (X : BufTy.Contents (Elt F) arg9.view.ty) (acc : Vec F S8x512 .f32)
    (h : ∀ y : S201x8x1536.Idx, (y (0 : Fin 3)).val ≤ t.val → arg9.view.read (Elt F) X y = projSlabs s y)
    (n : ℕ) (hn : n ≤ (k0_t2_loop t).trips) :
    st_k0_t2 (F := F) Variants.none c none arg0 harg0 arg1 harg1 arg2 harg2 arg3 harg3 arg4 harg4 arg5 harg5 arg6 harg6 arg7 harg7 arg8 harg8 arg9 harg9 arg10 harg10 a.whh a.bhh t X acc n = cells a s.xp acc n := by
  induction n with
  | zero => rfl
  | succ n ih =>
    rw [cells, ← ih (by omega)]
    refine (st_k0_t2_succ (F := F) Variants.none c none arg0 harg0 arg1 harg1 arg2 harg2 arg3 harg3 arg4 harg4 arg5 harg5 arg6 harg6 arg7 harg7 arg8 harg8 arg9 harg9 arg10 harg10 a.whh a.bhh t X acc ⟨n, hn⟩).trans ?_
    rw [trip_eq, slab_eq arg9 s t X ⟨n, hn⟩ h]

/-- Storing the new projection at slab `t + 1` and the new hidden state at its eight rows takes scratch buffers that hold
    the positions up to `t` to scratch buffers that hold the positions up to `t + 1`. -/
theorem holds_next (arg9 : Memref sig .tc .vmem S201x8x1536 .f32) (arg10 : Memref sig .tc .vmem S1608x512 .f32) (a : Args F)
    (s : State F) (t : Fin k0_t1_loop.trips) (f9 : BufTy.Contents (Elt F) arg9.view.ty)
    (f10 : BufTy.Contents (Elt F) arg10.view.ty)
    (h : Holds s t.val (arg9.view.read (Elt F) f9) (arg10.view.read (Elt F) f10)) :
    Holds (next a t.val s) (t.val + 1)
      (arg9.view.read (Elt F) (arg9.view.writes (Elt F) f9 [⟨Rect.unit (s := S201x8x1536) (k0_off3 t) S1x8x1536.size (k0_off3_inb t),
        k0_pay10 a.wih a.bih (cells a s.xp s.h (t.val + 1))⟩]))
      (arg10.view.read (Elt F) (arg10.view.writes (Elt F) f10 [⟨Rect.unit (s := S1608x512) (k0_off4 t) S8x512.size (k0_off4_inb t),
        k0_pay11 (cells a s.xp s.h (t.val + 1))⟩])) where
  proj y hy := by
    by_cases h0 : (y (0 : Fin 3)).val = t.val + 1
    · rw [View.read_writes_cons_unit_of_mem arg9.view f9 (k0_off3_inb t) _ [] y (ix3 0 (y (1 : Fin 3)) (y (2 : Fin 3))) (off3_eq t)
        (fun d => match d with
          | ⟨0, _⟩ => h0
          | ⟨1, _⟩ => (Nat.zero_add _).symm
          | ⟨2, _⟩ => (Nat.zero_add _).symm)]
      unfold projSlabs next
      dsimp only
      rw [h0, Function.update_self]
    · have hlt : (y (0 : Fin 3)).val < t.val + 1 := by omega
      rw [View.read_writes_cons_unit_of_not_mem arg9.view f9 (k0_off3_inb t) _ [] y (off3_eq t) (0 : Fin 3) (Or.inl hlt)]
      refine (h.proj y (by omega)).trans ?_
      unfold projSlabs next
      dsimp only
      rw [Function.update_of_ne (by omega)]
  seq y hy := by
    by_cases h0 : 8 * (t.val + 1) ≤ (y (0 : Fin 2)).val
    · have hq : (y (0 : Fin 2)).val / 8 = t.val + 1 := by omega
      rw [View.read_writes_cons_unit_of_mem arg10.view f10 (k0_off4_inb t) _ [] y
        (ix2 ⟨(y (0 : Fin 2)).val % 8, Nat.mod_lt _ (by decide)⟩ (y (1 : Fin 2))) (off4_eq t)
        (fun d => match d with
          | ⟨0, _⟩ => (by omega : (y (0 : Fin 2)).val = 8 * (t.val + 1) + (y (0 : Fin 2)).val % 8)
          | ⟨1, _⟩ => (Nat.zero_add _).symm)]
      unfold seqRows next
      dsimp only
      rw [hq, Function.update_self]
    · have hlt : (y (0 : Fin 2)).val < 8 * (t.val + 1) := by omega
      rw [View.read_writes_cons_unit_of_not_mem arg10.view f10 (k0_off4_inb t) _ [] y (off4_eq t) (0 : Fin 2) (Or.inl hlt)]
      refine (h.seq y hlt).trans ?_
      unfold seqRows next
      dsimp only
      rw [Function.update_of_ne (by omega)]

/-- Before outer trip `k`: the scratch buffers hold the positions up to `k`, and the carried value is the hidden state. -/
def outerInv (c : Dev nD) (arg9 : Memref sig .tc .vmem S201x8x1536 .f32) (arg10 : Memref sig .tc .vmem S1608x512 .f32)
    (a : Args F) (k : ℕ) (acc : Vec F S8x512 .f32) : sProp 𝕄 :=
  iprop(∃ f9, ∃ f10, (arg9.view.loc (c : Thread nD τ) ↦[arg9.view.set]{fullShare} f9)
    ∗ (arg10.view.loc (c : Thread nD τ) ↦[arg10.view.set]{fullShare} f10)
    ∗ ⌜acc = (st a k).h ∧ Holds (st a k) k (arg9.view.read (Elt F) f9) (arg10.view.read (Elt F) f10)⌝)

/-- One outer trip takes `outerInv` at `k` to `outerInv` at `k + 1`. -/
theorem outer_step (c : Dev nD) (arg0 : Memref sig .tc .vmem S8x512 .f32) (harg0 : arg0.IsWhole) (arg1 : Memref sig .tc .vmem S1x512 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1x1536 .f32) (harg4 : arg4.IsWhole) (arg5 : Memref sig .tc .vmem S1x1536 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1608x128 .f32) (harg8 : arg8.IsWhole) (arg9 : Memref sig .tc .vmem S201x8x1536 .f32) (harg9 : arg9.IsWhole) (arg10 : Memref sig .tc .vmem S1608x512 .f32) (harg10 : arg10.IsWhole) (a : Args F) (k : Fin k0_t1_loop.trips) (acc : Vec F S8x512 .f32) :
    outerInv c arg9 arg10 a k.val acc ⊢ wp frame (wpE (defs₀ (F := F)) Variants.none (c : Thread nD τ) none) Set.univ
      (k0_t1_body arg0 harg0 arg1 harg1 arg2 harg2 arg3 harg3 arg4 harg4 arg5 harg5 arg6 harg6 arg7 harg7 arg8 harg8 arg9 harg9 arg10 harg10 a.wih a.whh a.bih a.bhh k acc) (outerInv c arg9 arg10 a (k.val + 1)) := by
  unfold outerInv k0_t1_body
  iintro ⟨%f9, %f10, H9, H10, %hinv⟩
  obtain ⟨rfl, hh⟩ := hinv
  sl_exec
  sl_step
  iexists _
  iexists _
  isplitl [H9]; · iexact H9
  isplitl [H10]; · iexact H10
  ipureintro
  have e := inner_eq c arg0 harg0 arg1 harg1 arg2 harg2 arg3 harg3 arg4 harg4 arg5 harg5 arg6 harg6 arg7 harg7 arg8 harg8 arg9 harg9 arg10 harg10 a (st a k.val) k f9 (st a k.val).h hh.proj _ (le_refl _)
  have e' : st_k0_t2 (F := F) Variants.none c none arg0 harg0 arg1 harg1 arg2 harg2 arg3 harg3 arg4 harg4 arg5 harg5 arg6 harg6 arg7 harg7 arg8 harg8 arg9 harg9 arg10 harg10 a.whh a.bhh k f9 (st a k.val).h
      (Scf.trips (k0_t2_loop k).lb (k0_t2_loop k).ub (k0_t2_loop k).st) = cells a (st a k.val).xp (st a k.val).h (k.val + 1) :=
    e.trans (by rw [t2_trips])
  rw [e']
  exact ⟨rfl, holds_next arg9 arg10 a (st a k.val) k f9 f10 hh⟩

end Cert.KernelIdeal.Hand

end

end
-- ==== Proof.Body.lean ====
module

public import proofs.«01_k».proof.Proof.Outer

/-! The kernel's body: from its input blocks to its output block, the scratch buffers and the generator register given back. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ (UR sig nD τ) ℕ

/-- A load of a whole buffer reads what it holds. -/
theorem load_all {sp : Space} {s : Shape} {e : EltTy} (v : View sig .tc sp s e) {off : Fin s.rank → ℕ} (inb : ∀ a, off a + s.size a ≤ s.size a)
    (f : v.ty.Contents (Elt F)) : v.readAt (Elt F) (Rect.unit off s.size inb).toLoadRect f = v.read (Elt F) f := by
  funext y
  rw [View.readAt_apply]
  congr 1
  funext d
  have := inb d
  exact Fin.ext (by show off d + 1 * (y d).val = (y d).val; omega)

/-- A store of a whole buffer leaves what it stores. -/
theorem store_all {sp : Space} {s : Shape} {e : EltTy} (v : View sig .tc sp s e) {off : Fin s.rank → ℕ} (inb : ∀ a, off a + s.size a ≤ s.size a)
    (f : v.ty.Contents (Elt F)) (w : s.Idx → Elt F e) :
    v.read (Elt F) (v.writes (Elt F) f [⟨Rect.unit off s.size inb, w⟩]) = w := by
  funext y
  exact View.read_writes_cons_unit_of_mem v f inb w [] y y rfl fun d => by have := inb d; omega

/-- The first two stores leave scratch buffers that hold position 0. -/
theorem holds_zero (arg9 : Memref sig .tc .vmem S201x8x1536 .f32) (arg10 : Memref sig .tc .vmem S1608x512 .f32) (a : Args F)
    (f9 : BufTy.Contents (Elt F) arg9.view.ty) (f10 : BufTy.Contents (Elt F) arg10.view.ty) :
    Holds (st a 0) 0
      (arg9.view.read (Elt F) (arg9.view.writes (Elt F) f9 [⟨Rect.unit (s := S201x8x1536) ![0, 0, 0] S1x8x1536.size inb_S201x8x1536_S1x8x1536_0_0_0,
        k0_pay6 a.wih a.bih a.sos⟩]))
      (arg10.view.read (Elt F) (arg10.view.writes (Elt F) f10 [⟨Rect.unit (s := S1608x512) ![0, 0] S8x512.size inb_S1608x512_S8x512_0_0,
        k0_pay7 a.sos⟩])) where
  proj y hy := by
    exact View.read_writes_cons_unit_of_mem arg9.view f9 _ _ [] y (ix3 0 (y (1 : Fin 3)) (y (2 : Fin 3))) rfl
      (fun d => match d with
        | ⟨0, _⟩ => Nat.le_zero.mp hy
        | ⟨1, _⟩ => (Nat.zero_add _).symm
        | ⟨2, _⟩ => (Nat.zero_add _).symm)
  seq y hy := by
    exact View.read_writes_cons_unit_of_mem arg10.view f10 _ _ [] y
      (ix2 ⟨(y (0 : Fin 2)).val % 8, Nat.mod_lt _ (by decide)⟩ (y (1 : Fin 2))) rfl
      (fun d => match d with
        | ⟨0, _⟩ => (by omega : (y (0 : Fin 2)).val = 0 + (y (0 : Fin 2)).val % 8)
        | ⟨1, _⟩ => (Nat.zero_add _).symm)

set_option maxHeartbeats 1000000 in
/-- The body's triple: from the eight input windows at their contents and the output window and the scratch buffers at
    any, the body leaves the inputs as they were and the output window at `outBlock`. -/
theorem body_run (c : Dev nD) (arg0 : Memref sig .tc .vmem S8x512 .f32) (harg0 : arg0.IsWhole) (arg1 : Memref sig .tc .vmem S1x512 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1x1536 .f32) (harg4 : arg4.IsWhole) (arg5 : Memref sig .tc .vmem S1x1536 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1608x128 .f32) (harg8 : arg8.IsWhole) (arg9 : Memref sig .tc .vmem S201x8x1536 .f32) (harg9 : arg9.IsWhole) (arg10 : Memref sig .tc .vmem S1608x512 .f32) (harg10 : arg10.IsWhole) (a : Args F) (x6 : Vec F S512x128 .f32) (x7 : Vec F S1x128 .f32)
    (K : PUnit → sProp 𝕄) :
    iprop(owns (c : Thread nD τ) arg0 fullShare a.feat ∗ owns (c : Thread nD τ) arg1 fullShare a.sos
      ∗ owns (c : Thread nD τ) arg2 fullShare a.wih ∗ owns (c : Thread nD τ) arg3 fullShare a.whh
      ∗ owns (c : Thread nD τ) arg4 fullShare a.bih ∗ owns (c : Thread nD τ) arg5 fullShare a.bhh
      ∗ owns (c : Thread nD τ) arg6 fullShare x6 ∗ owns (c : Thread nD τ) arg7 fullShare x7
      ∗ (∃ d, owns (c : Thread nD τ) arg8 fullShare d) ∗ (∃ d, owns (c : Thread nD τ) arg9 fullShare d)
      ∗ (∃ d, owns (c : Thread nD τ) arg10 fullShare d)
      ∗ (iprop(owns (c : Thread nD τ) arg0 fullShare a.feat ∗ owns (c : Thread nD τ) arg1 fullShare a.sos
        ∗ owns (c : Thread nD τ) arg2 fullShare a.wih ∗ owns (c : Thread nD τ) arg3 fullShare a.whh
        ∗ owns (c : Thread nD τ) arg4 fullShare a.bih ∗ owns (c : Thread nD τ) arg5 fullShare a.bhh
        ∗ owns (c : Thread nD τ) arg6 fullShare x6 ∗ owns (c : Thread nD τ) arg7 fullShare x7
        ∗ owns (c : Thread nD τ) arg8 fullShare (outBlock a x6 x7) ∗ (∃ d, owns (c : Thread nD τ) arg9 fullShare d)
        ∗ (∃ d, owns (c : Thread nD τ) arg10 fullShare d)) -∗ K ⟨⟩))
    ⊢ wp frame (wpE (defs₀ (F := F)) Variants.none c none) Set.univ (cc0__decode_body arg0 harg0 arg1 harg1 arg2 harg2 arg3 harg3 arg4 harg4 arg5 harg5 arg6 harg6 arg7 harg7 arg8 harg8 arg9 harg9 arg10 harg10) K := by
  simp only [cc0__decode_body_eq_skeleton]; unfold cc0__decode_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2
  obtain rfl := harg3.eq_unread hf3; obtain rfl := harg4.eq_unread hf4; obtain rfl := harg5.eq_unread hf5
  obtain rfl := harg6.eq_unread hf6; obtain rfl := harg7.eq_unread hf7
  sl_exec
  rw [load_all arg0.view, load_all arg1.view, load_all arg2.view, load_all arg3.view, load_all arg4.view, load_all arg5.view,
    hf0, hf1, hf2, hf3, hf4, hf5]
  iapply (Scf.wp_for_bind Idealize.ShloMosaic.frame (wpE (defs₀ (F := F)) Variants.none (c : Thread nD τ) none) Set.univ
    k0_t1_loop.lb k0_t1_loop.ub k0_t1_loop.st k0_t1_ok a.feat _ (outerInv c arg9 arg10 a) (outer_step c arg0 harg0 arg1 harg1 arg2 harg2 arg3 harg3 arg4 harg4 arg5 harg5 arg6 harg6 arg7 harg7 arg8 harg8 arg9 harg9 arg10 harg10 a)) $$ [H9 H10]
  · unfold outerInv
    iexists _
    iexists _
    isplitl [H9]; · iexact H9
    isplitl [H10]; · iexact H10
    ipureintro
    exact ⟨rfl, holds_zero arg9 arg10 a f9 f10⟩
  unfold outerInv
  iintro %acc ⟨%g9, %g10, H9, H10, %hg⟩
  obtain ⟨rfl, hh⟩ := hg
  have hseq : arg10.view.read (Elt F) g10 = seqRows (st a 200) := funext fun y => by
    refine (hh.seq y ?_).trans (by rw [show Scf.trips k0_t1_loop.lb k0_t1_loop.ub k0_t1_loop.st = 200 from t1_trips])
    rw [show Scf.trips k0_t1_loop.lb k0_t1_loop.ub k0_t1_loop.st = 200 from t1_trips]
    exact (y (0 : Fin 2)).isLt
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    refine (store_all arg8.view _ _ _).trans ?_
    unfold outBlock
    exact congr (congr (congrArg k0_pay1 ((load_all arg10.view inb_S1608x512_S1608x512_0_0 g10).trans hseq))
      (congrArg k0_pay12 ((load_all arg6.view inb_S512x128_S512x128_0_0 _).trans hf6)))
      ((load_all arg7.view inb_S1x128_S1x128_0_0 _).trans hf7)
  isplitl [H9]
  · iexists _; iexists _; isplitr
    swap; · iexact H9
    ipureintro; rfl
  iexists _; iexists _; isplitr
  swap; · iexact H10
  ipureintro; rfl

end Cert.KernelIdeal.Hand

end

end
-- ==== Proof.Runs.lean ====
module

public import proofs.«01_k».proof.Proof.Body
public import Idealize.ShloMosaic.Lib.Claim

/-! The kernel's program: it ends with its arguments unchanged, its counters at zero and its output array at the one block
the body leaves. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The recurrence's windows at point `t`. -/
def argsAt (c : Dev nD) (t : Fin cfg0.N) : Args F :=
  ⟨iblk m c 0 t, iblk m c 1 t, iblk m c 2 t, iblk m c 3 t, iblk m c 4 t, iblk m c 5 t⟩

/-- What the output window holds after the body at point `t`. -/
def outAt (c : Dev nD) (t : Fin cfg0.N) : Vec F S1608x128 .f32 :=
  outBlock (argsAt m c t) (iblk m c 6 t) (iblk m c 7 t)

/-- The pipeline's proof data: the arrays as the region finds them, each input window left at its block, the output window
    at `outAt`, the scratch buffers at any contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

/-- The proof data's arrays are the contents at the region's entry. -/
theorem dats_A (c : Dev nD) (w : Fin cfg0.W) : (dats m 0 c).A w = V m c (Pipeline.arrRef spec0 w) := by
  dsimp only [dats]

/-- Input window 0 holds its block when the body starts. -/
theorem before0 (c : Dev nD) (t : Fin cfg0.N) (d) : (dats m 0 c).before 0 t d = iblk m c 0 t :=
  before0_0_of m (dats m 0 c) (dats_A m c 0) (fun t => by dsimp only [dats]) t d

/-- Input window 1 holds its block when the body starts. -/
theorem before1 (c : Dev nD) (t : Fin cfg0.N) (d) : (dats m 0 c).before 1 t d = iblk m c 1 t :=
  before0_1_of m (dats m 0 c) (dats_A m c 1) (fun t => by dsimp only [dats]) t d

/-- Input window 2 holds its block when the body starts. -/
theorem before2 (c : Dev nD) (t : Fin cfg0.N) (d) : (dats m 0 c).before 2 t d = iblk m c 2 t :=
  before0_2_of m (dats m 0 c) (dats_A m c 2) (fun t => by dsimp only [dats]) t d

/-- Input window 3 holds its block when the body starts. -/
theorem before3 (c : Dev nD) (t : Fin cfg0.N) (d) : (dats m 0 c).before 3 t d = iblk m c 3 t :=
  before0_3_of m (dats m 0 c) (dats_A m c 3) (fun t => by dsimp only [dats]) t d

/-- Input window 4 holds its block when the body starts. -/
theorem before4 (c : Dev nD) (t : Fin cfg0.N) (d) : (dats m 0 c).before 4 t d = iblk m c 4 t :=
  before0_4_of m (dats m 0 c) (dats_A m c 4) (fun t => by dsimp only [dats]) t d

/-- Input window 5 holds its block when the body starts. -/
theorem before5 (c : Dev nD) (t : Fin cfg0.N) (d) : (dats m 0 c).before 5 t d = iblk m c 5 t :=
  before0_5_of m (dats m 0 c) (dats_A m c 5) (fun t => by dsimp only [dats]) t d

/-- Input window 6 holds its block when the body starts. -/
theorem before6 (c : Dev nD) (t : Fin cfg0.N) (d) : (dats m 0 c).before 6 t d = iblk m c 6 t :=
  before0_6_of m (dats m 0 c) (dats_A m c 6) (fun t => by dsimp only [dats]) t d

/-- Input window 7 holds its block when the body starts. -/
theorem before7 (c : Dev nD) (t : Fin cfg0.N) (d) : (dats m 0 c).before 7 t d = iblk m c 7 t :=
  before0_7_of m (dats m 0 c) (dats_A m c 7) (fun t => by dsimp only [dats]) t d

/-- The two scratch buffers as memrefs. -/
abbrev scr0 : Memref sig .tc .vmem S201x8x1536 .f32 := Memref.whole cc0_scratch0
abbrev scr1 : Memref sig .tc .vmem S1608x512 .f32 := Memref.whole cc0_scratch1

/-- The invariant between points: both scratch buffers at some contents, and the generator register. -/
theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! The windows' staging buffers at a point. -/

abbrev buf0 (t : Fin cfg0.N) : Memref sig .tc .vmem S8x512 .f32 := win0_0.stage (cfg0.slots t 0)
abbrev buf1 (t : Fin cfg0.N) : Memref sig .tc .vmem S1x512 .f32 := win0_1.stage (cfg0.slots t 1)
abbrev buf2 (t : Fin cfg0.N) : Memref sig .tc .vmem S512x1536 .f32 := win0_2.stage (cfg0.slots t 2)
abbrev buf3 (t : Fin cfg0.N) : Memref sig .tc .vmem S512x1536 .f32 := win0_3.stage (cfg0.slots t 3)
abbrev buf4 (t : Fin cfg0.N) : Memref sig .tc .vmem S1x1536 .f32 := win0_4.stage (cfg0.slots t 4)
abbrev buf5 (t : Fin cfg0.N) : Memref sig .tc .vmem S1x1536 .f32 := win0_5.stage (cfg0.slots t 5)
abbrev buf6 (t : Fin cfg0.N) : Memref sig .tc .vmem S512x128 .f32 := win0_6.stage (cfg0.slots t 6)
abbrev buf7 (t : Fin cfg0.N) : Memref sig .tc .vmem S1x128 .f32 := win0_7.stage (cfg0.slots t 7)
abbrev buf8 (t : Fin cfg0.N) : Memref sig .tc .vmem S1608x128 .f32 := win0_8.stage (cfg0.slots t 8)

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 800000 in
/-- The body at a point, from the body's triple. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, inv_eq]
  dsimp only [dats]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (buf0 t) (hstage0_0 0) (buf1 t) (hstage0_1 0) (buf2 t) (hstage0_2 0) (buf3 t) (hstage0_3 0) (buf4 t) (hstage0_4 0)
    (buf5 t) (hstage0_5 0) (buf6 t) (hstage0_6 0) (buf7 t) (hstage0_7 0) (buf8 t) (hstage0_8 0) scr0 (Memref.isWhole_whole _) scr1
    (Memref.isWhole_whole _) (argsAt m c t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
set_option maxHeartbeats 800000 in
/-- The launch: every execution ends, with every array of the pipeline at what the proof data says, every other buffer as
    the host operations after the region leave it, and every semaphore counter at zero. -/
theorem run_all : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The launch without the counters. -/
theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The argument arrays end unchanged and every semaphore counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) (run_post m ρ)) ((θ_run defs _ _).mono (fun _ h => h.2) (run_all m ρ))

end Cert.KernelIdeal.Hand

end

end
-- ==== Proof.Same.lean ====
module

public import proofs.«01_k».proof.Defs
public import proofs.«01_k».proof.Proof.Runs
public import proofs.«01_k».proof.Proof.Gen.Kernel.Frame

/-! The program at machine words and the program at the ideal instance are printed alike (no operation was rewritten), so a
statement proved for the one at every float instance holds of the other. -/

@[expose] public section

noncomputable section

namespace Cert.Hand

open Idealize.ShloMosaic Idealize.SL.Sem

/-- The two programs' body tables are the same table. -/
theorem bodies_eq : Kernel.defs₀ (F := Bits) = KernelIdeal.defs₀ (F := Bits) := by
  unfold Kernel.defs₀ KernelIdeal.defs₀
  congr 1
  funext l a
  match l, a with
  | ⟨0, _⟩, (_, _) => rfl

/-- And so are their tables with the pipeline's regions. -/
theorem defs_eq : Kernel.defs (F := Bits) = KernelIdeal.defs (F := Bits) := by
  unfold Kernel.defs KernelIdeal.defs
  rw [bodies_eq]
  rfl

/-- The kernel at machine words ends with its arguments unchanged and its counters at zero. -/
theorem frame_kernel : Cert.quiescent_Kernel := fun m ρ _ => by
  rw [defs_eq]
  exact KernelIdeal.Hand.frame_all (F := Bits) m ρ

/-- The kernel at the ideal instance ends with its arguments unchanged and its counters at zero. -/
theorem frame_ideal : Cert.quiescent_KernelIdeal := fun m ρ _ => KernelIdeal.Hand.frame_all (F := Ideal) m ρ

end Cert.Hand

end

end
-- ==== Proof.Cell.lean ====
module

public import proofs.«01_k».proof.Proof.Spec
public import proofs.«01_k».proof.Proof.Gen.ReferenceIdeal.Step
public import Idealize.ShloMosaic.Lib.KernelVsHost
public import Idealize.ShloMosaic.Lib.ValueLayout
public import Idealize.ShloMosaic.Lib.Pointwise

/-! One cell of the recurrence, and one input projection, at the ideal instance: the kernel's block arithmetic computes what
the reference's does. -/

@[expose] public section

noncomputable section

namespace Cert.Hand

open Idealize.ShloMosaic
open Cert.KernelIdeal Cert.KernelIdeal.Gen Cert.KernelIdeal.Hand

/-- The transpose of a weight matrix, as the host hands it to the kernel. -/
abbrev tr (w : Vec Ideal S1536x512 .f32) : Vec Ideal S512x1536 .f32 :=
  transpose S512x1536 [1, 0] w transposes_S1536x512_S512x1536_1_0

/-- A bias as one row, as the host hands it to the kernel. -/
abbrev row (b : Vec Ideal S1536 .f32) : Vec Ideal S1x1536 .f32 := shapeCast S1x1536 b shapeCasts_S1536_S1x1536

/-- The bias row under a block of eight rows, read at an element. -/
theorem bias_kernel (b : Vec Ideal S1536 .f32) (r : Fin 8) (l : Fin 1536) :
    broadcastTo S8x1536 (shapeCast S1x1536 (row b) shapeCasts_S1x1536_S1x1536) broadcasts_S1x1536_S8x1536 (ix2 r l) = b (ix1 l) := by
  pointwise

/-- The reference's bias under a block of eight rows, read at an element. -/
theorem bias_ref (j : ℕ) (s : ReferenceIdeal.Step.State Ideal) (r : Fin 8) (l : Fin 1536) :
    ReferenceIdeal.Step.b33 j s (ix2 r l) = s.main_v14_1 (ix1 l) := by
  unfold ReferenceIdeal.Step.b33 ReferenceIdeal.Step.b32
  pointwise

/-- The reference's other bias under a block of eight rows, read at an element. -/
theorem bias_ref' (j : ℕ) (s : ReferenceIdeal.Step.State Ideal) (r : Fin 8) (l : Fin 1536) :
    ReferenceIdeal.Step.b77 j s (ix2 r l) = s.main_v14_3 (ix1 l) := by
  unfold ReferenceIdeal.Step.b77 ReferenceIdeal.Step.b76
  pointwise

/-- The product of a block of eight rows with a weight matrix's transpose, in the two programs' words. -/
theorem product_eq (h : Vec Ideal S8x512 .f32) (w : Vec Ideal S1536x512 .f32) :
    matmul (F := Ideal) (φ₁ := .f32) (φ₂ := .f32) dot_S8x512_S512x1536_S8x1536_1_0_0_1_n_n none h (shapeCast S512x1536 (tr w) shapeCasts_S512x1536_S512x1536)
        (constant S8x1536 .f32 0x00000000#32)
      = Host.dotGeneral (F := Ideal) (φ₁ := .f32) (φ₂ := .f32) ReferenceIdeal.dot_S8x512_S512x1536_S8x1536_1_0_0_1_n_n none h (tr w) := by
  rw [shapeCast_self, matmul_zero_eq_dotGeneral]
  rfl

/-- One cell: the kernel's payload, at the operands the host hands it, is the reference's new hidden state. -/
theorem cell_eq (j : ℕ) (s : ReferenceIdeal.Step.State Ideal) (X : Vec Ideal S1x8x1536 .f32)
    (hX : ReferenceIdeal.Step.b28 j s = X) :
    k0_pay8 (tr s.main_v14_0) (row s.main_v14_1) s.main_v14_8 X = ReferenceIdeal.Step.b67 j s := by
  have hP := product_eq s.main_v14_8 s.main_v14_0
  have hb := bias_kernel s.main_v14_1
  have hb' := bias_ref j s
  have hd : ReferenceIdeal.Step.b31 j s
      = Host.dotGeneral (F := Ideal) (φ₁ := .f32) (φ₂ := .f32) ReferenceIdeal.dot_S8x512_S512x1536_S8x1536_1_0_0_1_n_n none s.main_v14_8 (tr s.main_v14_0) := rfl
  funext i
  rw [eq_ix2 i]
  generalize i 0 = r
  generalize i 1 = l
  unfold k0_pay8 k0_pay3 k0_pay5
  simp only [hP, ← hd]
  unfold ReferenceIdeal.Step.b67 ReferenceIdeal.Step.b66 ReferenceIdeal.Step.b65 ReferenceIdeal.Step.b64 ReferenceIdeal.Step.b63
    ReferenceIdeal.Step.b62 ReferenceIdeal.Step.b61 ReferenceIdeal.Step.b60 ReferenceIdeal.Step.b59 ReferenceIdeal.Step.b58
    ReferenceIdeal.Step.b57 ReferenceIdeal.Step.b56 ReferenceIdeal.Step.b55 ReferenceIdeal.Step.b54 ReferenceIdeal.Step.b53
    ReferenceIdeal.Step.b52 ReferenceIdeal.Step.b51 ReferenceIdeal.Step.b50 ReferenceIdeal.Step.b49 ReferenceIdeal.Step.b48
    ReferenceIdeal.Step.b47 ReferenceIdeal.Step.b46 ReferenceIdeal.Step.b45 ReferenceIdeal.Step.b44 ReferenceIdeal.Step.b43
    ReferenceIdeal.Step.b42 ReferenceIdeal.Step.b41 ReferenceIdeal.Step.b40 ReferenceIdeal.Step.b39 ReferenceIdeal.Step.b38
    ReferenceIdeal.Step.b37 ReferenceIdeal.Step.b36 ReferenceIdeal.Step.b35 ReferenceIdeal.Step.b34 ReferenceIdeal.Step.b29
  rw [hX]
  generalize ReferenceIdeal.Step.b31 j s = P
  pointwise [hb, hb', Ideal.logistic]

/-- One input projection: the kernel's stored slab is the reference's projection of the state the trip ends with. -/
theorem projection_eq (j : ℕ) (s : ReferenceIdeal.Step.State Ideal) (r : Fin 8) (l : Fin 1536) :
    k0_pay10 (tr s.main_v14_2) (row s.main_v14_3) (ReferenceIdeal.Step.b69 j s) (ix3 0 r l)
      = ReferenceIdeal.Step.b78 j s (ix2 r l) := by
  have hP := product_eq (ReferenceIdeal.Step.b69 j s) s.main_v14_2
  have hb := bias_kernel s.main_v14_3
  have hb' := bias_ref' j s
  have hd : ReferenceIdeal.Step.b75 j s = Host.dotGeneral (F := Ideal) (φ₁ := .f32) (φ₂ := .f32)
    ReferenceIdeal.dot_S8x512_S512x1536_S8x1536_1_0_0_1_n_n none (ReferenceIdeal.Step.b69 j s) (tr s.main_v14_2) := rfl
  unfold k0_pay10 k0_pay2 k0_pay4
  simp only [hP, ← hd]
  unfold ReferenceIdeal.Step.b78
  generalize ReferenceIdeal.Step.b75 j s = P
  pointwise [hb, hb']

/-- The first row of the embedding, as the host hands it to the kernel. -/
abbrev first (e : Vec Ideal S113x512 .f32) : Vec Ideal S1x512 .f32 :=
  extractStridedSlice S1x512 ![0, 0] e slices_S113x512_S1x512_0_0

/-- The first slab of projections, of the start token alone. -/
theorem first_projection_eq (e : Vec Ideal S113x512 .f32) (w : Vec Ideal S1536x512 .f32) (b : Vec Ideal S1536 .f32)
    (r : Fin 8) (l : Fin 1536) :
    k0_pay6 (tr w) (row b) (first e) (ix3 0 r l) = ReferenceIdeal.Step.A_main_v8 e w b (ix2 r l) := by
  unfold k0_pay6 k0_pay2 k0_pay4 ReferenceIdeal.Step.A_main_v8 ReferenceIdeal.Step.A_main_v7 ReferenceIdeal.Step.A_main_v6
    ReferenceIdeal.Step.A_main_v5 ReferenceIdeal.Step.A_main_v4 ReferenceIdeal.Step.A_main_v2 ReferenceIdeal.Step.A_main_v1
    ReferenceIdeal.Step.A_main_v0
  pointwise [dot_S1x512_S512x1536_S1x1536_1_0_0_1_n_n, ReferenceIdeal.dot_S8x512_S512x1536_S8x1536_1_0_0_1_n_n]

/-- The first block of states, of the start token alone. -/
theorem first_block_eq (e : Vec Ideal S113x512 .f32) (w : Vec Ideal S1536x512 .f32) (b : Vec Ideal S1536 .f32)
    (r : Fin 8) (l : Fin 512) :
    k0_pay7 (first e) (ix2 r l) = ReferenceIdeal.Step.A_main_v2 e w b (ix2 r l) := by
  unfold k0_pay7 ReferenceIdeal.Step.A_main_v2 ReferenceIdeal.Step.A_main_v1 ReferenceIdeal.Step.A_main_v0
  pointwise

end Cert.Hand

end

end
-- ==== Proof.Sets.lean ====
module

public import Idealize.ShloMosaic.Lib.Routing.OpsOne
public import Idealize.ShloMosaic.Lib.ValueIdx

/-! A block written into an array at one position of one axis: the two shapes of it that the host operations of the two
programs have, read at an element. -/

@[expose] public section

namespace Cert.Hand

open Idealize.ShloMosaic Idealize.ShloMosaic.Routing Idealize.ShloMosaic.ValueIdx

variable {α : Type}

/-- Setting slab `t` of a three-axis array: slab `t` reads the update, every other slab the array. -/
theorem set_slab {N A B : ℕ} (h : ScatterDims.WF (⟨3, ![N, A, B]⟩ : Shape) ⟨1, ![1]⟩ ⟨2, ![A, B]⟩ [0, 1] [0] [0] 0)
    (x : (⟨3, ![N, A, B]⟩ : Shape).Idx → α) (idx : IVec (⟨1, ![1]⟩ : Shape) 32) (upd : (⟨2, ![A, B]⟩ : Shape).Idx → α)
    (t : ℕ) (hidx : (idx (ix1 0)).toInt = (t : ℤ)) (r : Fin N) (a : Fin A) (b : Fin B) :
    Host.scatter (⟨[0, 1], [0], [0], 0, h⟩ : ScatterDims _ _ _) (fun _ v => v) x idx upd (ix3 r a b)
      = if r.val = t then upd (ix2 a b) else x (ix3 r a b) := by
  have lands : ∀ k : (⟨2, ![A, B]⟩ : Shape).Idx,
      (⟨[0, 1], [0], [0], 0, h⟩ : ScatterDims (⟨3, ![N, A, B]⟩ : Shape) ⟨1, ![1]⟩ ⟨2, ![A, B]⟩).resultIdx? k idx = some (ix3 r a b)
        ↔ r.val = t ∧ k = ix2 a b := by
    intro k
    have s0 : (⟨[0, 1], [0], [0], 0, h⟩ : ScatterDims (⟨3, ![N, A, B]⟩ : Shape) ⟨1, ![1]⟩ ⟨2, ![A, B]⟩).start k idx 0 = (t : ℤ) := by
      rw [← hidx]
      show (idx _).toInt = _
      congr 2
      funext z
      match z with
      | ⟨0, _⟩ => exact Subsingleton.elim (α := Fin 1) _ _
    rw [resultIdx?_eq_some]
    constructor
    · intro q
      have q0 := q 0
      have q1 : (0 : ℤ) + ((k 0).val : ℤ) = (a.val : ℤ) := q 1
      have q2 : (0 : ℤ) + ((k 1).val : ℤ) = (b.val : ℤ) := q 2
      rw [s0] at q0
      have q0' : (t : ℤ) + (0 : ℤ) = (r.val : ℤ) := q0
      refine ⟨by omega, ?_⟩
      rw [eq_ix2 k]
      congr 1
      · exact Fin.ext (by omega)
      · exact Fin.ext (by omega)
    · rintro ⟨rfl, rfl⟩ z
      match z with
      | ⟨0, _⟩ =>
        refine (congrArg (· + _) s0).trans ?_
        show (r.val : ℤ) + (0 : ℤ) = (r.val : ℤ)
        omega
      | ⟨1, _⟩ => show (0 : ℤ) + (a.val : ℤ) = (a.val : ℤ); omega
      | ⟨2, _⟩ => show (0 : ℤ) + (b.val : ℤ) = (b.val : ℤ); omega
  by_cases e : r.val = t
  · rw [if_pos e]
    exact scatter_set_hit _ x idx upd _ _ (fun k hk => congrArg upd ((lands k).1 hk).2) (ix2 a b) ((lands _).2 ⟨e, rfl⟩)
  · rw [if_neg e]
    exact scatter_set_miss _ x idx upd _ fun k hk => e ((lands k).1 hk).1

/-- Setting the leading `M` columns of a matrix of `N`: those columns read the update. -/
theorem set_cols {A N M : ℕ} (h : ScatterDims.WF (⟨2, ![A, N]⟩ : Shape) ⟨1, ![1]⟩ ⟨2, ![A, M]⟩ [0, 1] [] [1] 0)
    (x : (⟨2, ![A, N]⟩ : Shape).Idx → α) (idx : IVec (⟨1, ![1]⟩ : Shape) 32) (upd : (⟨2, ![A, M]⟩ : Shape).Idx → α)
    (hidx : (idx (ix1 0)).toInt = 0) (a : Fin A) (b : Fin M) (b' : Fin N) (hb : b'.val = b.val) :
    Host.scatter (⟨[0, 1], [], [1], 0, h⟩ : ScatterDims _ _ _) (fun _ v => v) x idx upd (ix2 a b') = upd (ix2 a b) := by
  have lands : ∀ k : (⟨2, ![A, M]⟩ : Shape).Idx,
      (⟨[0, 1], [], [1], 0, h⟩ : ScatterDims (⟨2, ![A, N]⟩ : Shape) ⟨1, ![1]⟩ ⟨2, ![A, M]⟩).resultIdx? k idx = some (ix2 a b')
        ↔ k = ix2 a b := by
    intro k
    have s1 : (⟨[0, 1], [], [1], 0, h⟩ : ScatterDims (⟨2, ![A, N]⟩ : Shape) ⟨1, ![1]⟩ ⟨2, ![A, M]⟩).start k idx 1 = 0 := by
      rw [← hidx]
      show (idx _).toInt = _
      congr 2
      funext z
      match z with
      | ⟨0, _⟩ => exact Subsingleton.elim (α := Fin 1) _ _
    rw [resultIdx?_eq_some]
    constructor
    · intro q
      have q0 : (0 : ℤ) + ((k 0).val : ℤ) = (a.val : ℤ) := q 0
      have q1 := q 1
      rw [s1] at q1
      have q1' : (0 : ℤ) + ((k 1).val : ℤ) = (b'.val : ℤ) := q1
      rw [eq_ix2 k]
      congr 1
      · exact Fin.ext (by omega)
      · exact Fin.ext (by omega)
    · rintro rfl z
      match z with
      | ⟨0, _⟩ => show (0 : ℤ) + (a.val : ℤ) = (a.val : ℤ); omega
      | ⟨1, _⟩ =>
        refine (congrArg (· + _) s1).trans ?_
        show (0 : ℤ) + (b.val : ℤ) = (b'.val : ℤ)
        omega
  exact scatter_set_hit _ x idx upd _ _ (fun k hk => congrArg upd ((lands k).1 hk)) (ix2 a b) ((lands _).2 rfl)

end Cert.Hand

end
-- ==== Proof.Final.lean ====
module

public import proofs.«01_k».proof.Proof.Cell
public import proofs.«01_k».proof.Proof.Sets

/-! The last step of both programs: the character scores of all recorded hidden states. -/

@[expose] public section

noncomputable section

namespace Cert.Hand

open Idealize.ShloMosaic
open Cert.KernelIdeal Cert.KernelIdeal.Gen Cert.KernelIdeal.Hand

/-- The projection, transposed into the leading columns of a zero matrix, as the host hands it to the kernel. -/
def padW (w : Vec Ideal S113x512 .f32) : Vec Ideal S512x128 .f32 :=
  Host.scatter scatter_S512x128_S1_S512x113_01_n_1_0 (fun _ b => b)
    (broadcastInDim S512x128 ![] bcast_S_S512x128 (constant (F := Ideal) S_ .f32 0x00000000#32))
    (broadcastInDim S1 ![] bcast_S_S1 (constantI S_ 32 0#32))
    (transpose S512x113 [1, 0] w transposes_S113x512_S512x113_1_0)

/-- The projection's bias, in the leading columns of a zero row, as the host hands it to the kernel. -/
def padB (b : Vec Ideal S113 .f32) : Vec Ideal S1x128 .f32 :=
  Host.scatter scatter_S1x128_S1_S1x113_01_n_1_0 (fun _ b => b)
    (broadcastInDim S1x128 ![] bcast_S_S1x128 (constant (F := Ideal) S_ .f32 0x00000000#32))
    (broadcastInDim S1 ![] bcast_S_S1 (constantI S_ 32 0#32))
    (broadcastInDim S1x113 ![1] bcast_S113_S1x113_1 b)

/-- What the host makes of the kernel's block: its rows split into positions and batch, the padding dropped, the axes in the
    result's order. -/
def unpack (o : Vec Ideal S1608x128 .f32) : Vec Ideal S8x113x201 .f32 :=
  transpose S8x113x201 [1, 2, 0]
    (extractStridedSlice S201x8x113 ![0, 0, 0] (shapeCast S201x8x128 o shapeCasts_S1608x128_S201x8x128)
      slices_S201x8x128_S201x8x113_0_0_0) transposes_S201x8x113_S8x113x201_1_2_0

/-- The padded projection at a column that is not padding. -/
theorem padW_apply (w : Vec Ideal S113x512 .f32) (k : Fin 512) (n : Fin 113) (n' : Fin 128) (hn : n'.val = n.val) :
    padW w (ix2 k n') = w (ix2 n k) := by
  refine (set_cols _ _ _ _ rfl k n n' hn).trans ?_
  pointwise

/-- The padded bias at a column that is not padding. -/
theorem padB_apply (b : Vec Ideal S113 .f32) (n : Fin 113) (n' : Fin 128) (hn : n'.val = n.val) :
    padB b (ix2 0 n') = b (ix1 n) := by
  refine (set_cols _ _ _ _ rfl 0 n n' hn).trans ?_
  pointwise

/-- The host's unpacking, read at an element. -/
theorem unpack_apply (o : Vec Ideal S1608x128 .f32) (b : Fin 8) (n : Fin 113) (t : Fin 201) :
    unpack o (ix3 b n t) = o (ix2 ⟨8 * t.val + b.val, by omega⟩ ⟨n.val, by omega⟩) := by
  unfold unpack
  pointwise
  congr 2
  exact Fin.ext (by show t.val * 8 + b.val = 8 * t.val + b.val; omega)

/-- The kernel's last product, read at an element. -/
theorem scores_apply (q : Vec Ideal S1608x512 .f32) (pw : Vec Ideal S512x128 .f32) (pb : Vec Ideal S1x128 .f32)
    (r : Fin 1608) (n : Fin 128) :
    k0_pay1 q (k0_pay12 pw) pb (ix2 r n) = (∑ k : Fin 512, q (ix2 r k) * pw (ix2 k n)) + pb (ix2 0 n) := by
  unfold k0_pay1 k0_pay12
  pointwise [dot_S1608x512_S512x128_S1608x128_1_0_0_1_n_n]

/-- The reference's last product, read at an element. -/
theorem ref_scores_apply (s : ReferenceIdeal.Step.State Ideal) (w : Vec Ideal S113x512 .f32) (c : Vec Ideal S113 .f32)
    (b : Fin 8) (n : Fin 113) (t : Fin 201) :
    ReferenceIdeal.Step.R_main_v19 s w c (ix3 b n t)
      = (∑ k : Fin 512, w (ix2 n k) * s.main_v14_7 (ix3 t b k)) + c (ix1 n) := by
  unfold ReferenceIdeal.Step.R_main_v19
  pointwise [ReferenceIdeal.dot_S113x512_S201x8x512_S113x201x8_1_2_0_01_n_n]

/-- Equal hidden states give equal scores. -/
theorem scores_eq (S : KernelIdeal.Hand.State Ideal) (s : ReferenceIdeal.Step.State Ideal) (w : Vec Ideal S113x512 .f32)
    (c : Vec Ideal S113 .f32) (hs : ∀ (t : Fin 201) (b : Fin 8) (k : Fin 512), s.main_v14_7 (ix3 t b k) = S.sq t.val (ix2 b k)) :
    unpack (k0_pay1 (seqRows S) (k0_pay12 (padW w)) (padB c)) = ReferenceIdeal.Step.R_main_v19 s w c := by
  funext i
  obtain ⟨b, n, t, rfl⟩ : ∃ (b : Fin 8) (n : Fin 113) (t : Fin 201), i = ix3 b n t := ⟨i 0, i 1, i 2, eq_ix3 i⟩
  rw [unpack_apply, scores_apply, ref_scores_apply, padB_apply c n _ rfl]
  congr 1
  refine Finset.sum_congr rfl fun k _ => ?_
  rw [padW_apply w k n _ rfl, hs, mul_comm]
  congr 1
  unfold seqRows
  show S.sq ((8 * t.val + b.val) / 8) _ = _
  have e1 : (8 * t.val + b.val) / 8 = t.val := by omega
  have e2 : (8 * t.val + b.val) % 8 = b.val := by omega
  rw [e1]
  congr 1
  exact congrArg (fun z : Fin 8 => ix2 z k) (Fin.ext e2)

end Cert.Hand

end

end
-- ==== Proof.KernelValue.lean ====
module

public import proofs.«01_k».proof.Proof.Runs
public import proofs.«01_k».proof.Proof.Final
public import Idealize.ShloMosaic.Lib.Pipeline.ValueKit
public import Idealize.ShloMosaic.Lib.Claim

/-! What the kernel's result array ends holding: the one grid point's block, computed from the arguments as the
    operations before the region lay them out, then unpacked by the operations after it. -/

@[expose] public section

noncomputable section

namespace Cert.Hand

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The arrays the region finds, of the arguments: the start embedding's row, the weights transposed, the biases as rows,
    and the padded output projection with its bias. -/
theorem entries (c : Dev nD) :
    V m c main_v0 = first (m ((c.tc : Thread nD τ).loc main_arg1))
    ∧ V m c main_v1 = tr (m ((c.tc : Thread nD τ).loc main_arg2))
    ∧ V m c main_v2 = tr (m ((c.tc : Thread nD τ).loc main_arg3))
    ∧ V m c main_v3 = row (m ((c.tc : Thread nD τ).loc main_arg4))
    ∧ V m c main_v4 = row (m ((c.tc : Thread nD τ).loc main_arg5))
    ∧ V m c main_v8 = padW (m ((c.tc : Thread nD τ).loc main_arg6))
    ∧ V m c main_v12 = padB (m ((c.tc : Thread nD τ).loc main_arg7)) := by
  unfold V V0
  simp only [hostOps0, List.flatten_cons, List.flatten_nil, List.append_nil, List.cons_append, List.nil_append]
  refine ⟨?_, ?_, ?_, ?_, ?_, ?_, ?_⟩ <;> (after_results; try rfl)

/-- Every input window's one block sits at the start of its array. -/
theorem at_zero : win0_0.index t0_0 = ![0, 0] ∧ win0_1.index t0_0 = ![0, 0] ∧ win0_2.index t0_0 = ![0, 0]
    ∧ win0_3.index t0_0 = ![0, 0] ∧ win0_4.index t0_0 = ![0, 0] ∧ win0_5.index t0_0 = ![0, 0]
    ∧ win0_6.index t0_0 = ![0, 0] ∧ win0_7.index t0_0 = ![0, 0] ∧ win0_8.index t0_0 = ![0, 0] := by
  decide +kernel

/-- Whatever an input window's array holds, the window's one block is the whole of it. -/
theorem whole (X0 : Vec Ideal S8x512 .f32) (X1 : Vec Ideal S1x512 .f32) (X2 : Vec Ideal S512x1536 .f32) (X3 : Vec Ideal S512x1536 .f32)
    (X4 : Vec Ideal S1x1536 .f32) (X5 : Vec Ideal S1x1536 .f32) (X6 : Vec Ideal S512x128 .f32) (X7 : Vec Ideal S1x128 .f32) :
    ((cfg0.win 0).blk t0_0).view.read (Elt Ideal) X0 = X0
    ∧ ((cfg0.win 1).blk t0_0).view.read (Elt Ideal) X1 = X1
    ∧ ((cfg0.win 2).blk t0_0).view.read (Elt Ideal) X2 = X2
    ∧ ((cfg0.win 3).blk t0_0).view.read (Elt Ideal) X3 = X3
    ∧ ((cfg0.win 4).blk t0_0).view.read (Elt Ideal) X4 = X4
    ∧ ((cfg0.win 5).blk t0_0).view.read (Elt Ideal) X5 = X5
    ∧ ((cfg0.win 6).blk t0_0).view.read (Elt Ideal) X6 = X6
    ∧ ((cfg0.win 7).blk t0_0).view.read (Elt Ideal) X7 = X7 := by
  refine ⟨?_, ?_, ?_, ?_, ?_, ?_, ?_, ?_⟩ <;> (funext y; blk_ext [at_zero])

/-- The blocks the body is handed are the arrays the region finds. -/
theorem blocks (c : Dev nD) :
    iblk m c 0 t0_0 = V m c main_arg0
    ∧ iblk m c 1 t0_0 = V m c main_v0
    ∧ iblk m c 2 t0_0 = V m c main_v1
    ∧ iblk m c 3 t0_0 = V m c main_v2
    ∧ iblk m c 4 t0_0 = V m c main_v3
    ∧ iblk m c 5 t0_0 = V m c main_v4
    ∧ iblk m c 6 t0_0 = V m c main_v8
    ∧ iblk m c 7 t0_0 = V m c main_v12 :=
  whole _ _ _ _ _ _ _ _

/-- The kernel's arguments as its body is handed them. -/
def handed (c : Dev nD) : Args Ideal :=
  ⟨m ((c.tc : Thread nD τ).loc main_arg0), first (m ((c.tc : Thread nD τ).loc main_arg1)),
    tr (m ((c.tc : Thread nD τ).loc main_arg2)), tr (m ((c.tc : Thread nD τ).loc main_arg3)),
    row (m ((c.tc : Thread nD τ).loc main_arg4)), row (m ((c.tc : Thread nD τ).loc main_arg5))⟩

/-- What the body leaves in the output window's block, of the arguments. -/
theorem out_eq (c : Dev nD) : outAt m c t0_0
    = outBlock (handed m c) (padW (m ((c.tc : Thread nD τ).loc main_arg6))) (padB (m ((c.tc : Thread nD τ).loc main_arg7))) := by
  unfold outAt argsAt handed
  obtain ⟨b0, b1, b2, b3, b4, b5, b6, b7⟩ := blocks m c
  obtain ⟨e0, e1, e2, e3, e4, e8, e12⟩ := entries m c
  rw [b0, b1, b2, b3, b4, b5, b6, b7, e0, e1, e2, e3, e4, e8, e12, V_main_arg0]

/-- The output window's array after the region is that block. -/
theorem array_eq (c : Dev nD) : (dats m 0 c).arrAt 8 cfg0.N = outAt m c t0_0 := by
  refine (dats m 0 c).arrAt_eq_of_after_last 8 t0_0 (by decide +kernel) _ fun j => ?_
  have e : (dats m 0 c).after 8 t0_0 = outAt m c t0_0 := rfl
  generalize outAt m c t0_0 = X at e ⊢
  blk_simp
  rw [e]
  blk_ext [at_zero]

/-- The result array after the run, and the arguments. -/
theorem kernel_value : θ_run defs (onTc (main (F := Ideal))) ⟨m, fun _ => 0, ρ⟩ (fun r => ∀ c : Dev nD,
    r.2.mem ((c.tc : Thread nD τ).loc main_v16)
      = unpack (outBlock (handed m c) (padW (m ((c.tc : Thread nD τ).loc main_arg6))) (padB (m ((c.tc : Thread nD τ).loc main_arg7))))) := by
  refine (θ_run defs _ _).mono (fun r h c => ?_) (run_post m ρ)
  refine ((h c).2 main_v16 (Pipeline.mem_restRefs_of main_v16 (by decide) (by decide))).trans ?_
  unfold Pipeline.afterTail₀
  rw [← out_eq, ← array_eq]
  simp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v13)
      = (dats m 0 c).arrAt 8 cfg0.N :=
    Pipeline.withArrays_arr (cfgs 0).spec (by decide) c (V0 m c) (fun w => (dats m 0 c).arrAt w (cfgs 0).N) 8
  rw [e]
  generalize (dats m 0 c).arrAt 8 cfg0.N = X
  rfl

end Cert.Hand

end

end
-- ==== Proof.RefIndex.lean ====
module

public import proofs.«01_k».proof.Proof.Cell
public import proofs.«01_k».proof.Proof.Sets
public import Idealize.ShloMosaic.Lib.DynamicIndex
public import Idealize.ShloMosaic.Lib.Routing.Words

/-! The numbers a trip of the reference's loop computes: trip `t * 201 + k` reads slab `k`, keeps its cell's result where
`k ≤ t`, and writes position `t + 1` where `k = 200`. -/

@[expose] public section

noncomputable section

namespace Cert.Hand

open Idealize.ShloMosaic
open Cert.ReferenceIdeal Cert.ReferenceIdeal.Step

/-- The outer number of a trip. -/
theorem outer_eq {t k : ℕ} (ht : t < 200) (hk : k < 201) (s : State Ideal) (i : S_.Idx) :
    b3 (t * 201 + k) s i = BitVec.ofNat 32 t := by
  unfold b3
  refine (Routing.divsi_word .host (a := t * 201 + k) (b := 201) (by omega) (by decide) (by decide)).trans ?_
  congr 1
  omega

/-- The inner number of a trip. -/
theorem inner_eq {t k : ℕ} (ht : t < 200) (hk : k < 201) (s : State Ideal) (i : S_.Idx) :
    b5 (t * 201 + k) s i = BitVec.ofNat 32 k := by
  unfold b5
  refine (Routing.remsi_word .host (a := t * 201 + k) (b := 201) (by omega) (by decide) (by decide)).trans ?_
  congr 1
  omega

/-- The slab a trip reads: the inner number's. -/
theorem slab_eq {t k : ℕ} (ht : t < 200) (hk : k < 201) (s : State Ideal) (b : Fin 8) (l : Fin 1536) :
    b28 (t * 201 + k) s (ix3 0 b l) = s.main_v14_6 (ix3 ⟨k, hk⟩ b l) := by
  have h11 : ∀ i, (b11 (t * 201 + k) s i).toInt = (k : ℤ) := fun i => by
    have e : (b6 (t * 201 + k) s i).toInt = (k : ℤ) := by
      rw [b6_id, inner_eq ht hk]
      exact toInt_ofNat_of_lt (by omega)
    unfold b11 b8 b7
    refine (congrArg BitVec.toInt (select_slt_zero_of_nonneg _ _ _ _ ?_)).trans e
    omega
  have h19 : ∀ i, (b19 (t * 201 + k) s i).toInt = (0 : ℤ) := fun i => by rfl
  have h27 : ∀ i, (b27 (t * 201 + k) s i).toInt = (0 : ℤ) := fun i => by rfl
  unfold b28
  rw [Host.dynamicSlice_eq_extractStridedSlice S1x8x1536 s.main_v14_6 _ ![k, 0, 0] _
    ⟨rfl, fun a => by
      match a with
      | ⟨0, _⟩ => show k + 1 ≤ 201; omega
      | ⟨1, _⟩ => show 0 + 8 ≤ 8; omega
      | ⟨2, _⟩ => show 0 + 1536 ≤ 1536; omega⟩
    (fun a => by
      match a with
      | ⟨0, _⟩ => exact h11 (fun z => z.elim0)
      | ⟨1, _⟩ => exact h19 (fun z => z.elim0)
      | ⟨2, _⟩ => exact h27 (fun z => z.elim0))]
  pointwise

/-- Whether a trip keeps its cell's result. -/
theorem keep_eq {t k : ℕ} (ht : t < 200) (hk : k < 201) (s : State Ideal) :
    b69 (t * 201 + k) s = if k ≤ t then b67 (t * 201 + k) s else s.main_v14_8 := by
  have hc : ∀ i, b68 (t * 201 + k) s i = BitVec.ofBool (decide (k ≤ t)) := fun i => by
    show BitVec.ofBool (BitVec.sle (b5 (t * 201 + k) s i) (b3 (t * 201 + k) s i)) = _
    rw [inner_eq ht hk, outer_eq ht hk, BitVec.sle, toInt_ofNat_of_lt (by omega), toInt_ofNat_of_lt (by omega)]
    congr 1
    simp
  funext i
  show (if b68 (t * 201 + k) s _ = 1 then b67 (t * 201 + k) s i else s.main_v14_8 i) = _
  rw [hc]
  by_cases h : k ≤ t
  · rw [if_pos h, decide_eq_true h]; rfl
  · rw [if_neg h, decide_eq_false h]; rfl

/-- Whether a trip is the last of its row. -/
theorem last_eq {t k : ℕ} (ht : t < 200) (hk : k < 201) (s : State Ideal) (i : S_.Idx) :
    b71 (t * 201 + k) s i = BitVec.ofBool (decide (k = 200)) := by
  show BitVec.ofBool (b5 (t * 201 + k) s i == 200#32) = _
  rw [inner_eq ht hk]
  congr 1
  by_cases h : k = 200
  · subst h; rfl
  · rw [decide_eq_false h, beq_eq_false_iff_ne]
    intro e
    have := congrArg BitVec.toNat e
    simp only [BitVec.toNat_ofNat] at this
    omega

/-- The position a trip writes its projection at. -/
theorem at_proj {t k : ℕ} (ht : t < 200) (hk : k < 201) (s : State Ideal) (i : S1.Idx) :
    (b85 (t * 201 + k) s i).toInt = ((t + 1 : ℕ) : ℤ) := by
  have e : ∀ i, (b73 (t * 201 + k) s i).toInt = ((t + 1 : ℕ) : ℤ) := fun i => by
    show (b3 (t * 201 + k) s i + 1#32).toInt = _
    rw [outer_eq ht hk, ← BitVec.ofNat_add]
    exact toInt_ofNat_of_lt (by omega)
  show (b83 (t * 201 + k) s _).toInt = _
  unfold b83 b80 b79
  refine (congrArg BitVec.toInt (select_slt_zero_of_nonneg _ _ _ _ ?_)).trans (e _)
  rw [e]; omega

/-- The position a trip writes its hidden state at. -/
theorem at_seq {t k : ℕ} (ht : t < 200) (hk : k < 201) (s : State Ideal) (i : S1.Idx) :
    (b96 (t * 201 + k) s i).toInt = ((t + 1 : ℕ) : ℤ) := by
  have e : ∀ i, (b89 (t * 201 + k) s i).toInt = ((t + 1 : ℕ) : ℤ) := fun i => by
    show (b3 (t * 201 + k) s i + 1#32).toInt = _
    rw [outer_eq ht hk, ← BitVec.ofNat_add]
    exact toInt_ofNat_of_lt (by omega)
  show (b94 (t * 201 + k) s _).toInt = _
  unfold b94 b91 b90
  refine (congrArg BitVec.toInt (select_slt_zero_of_nonneg _ _ _ _ ?_)).trans (e _)
  rw [e]; omega

/-- The projections after a trip, at an element. -/
theorem proj_after {t k : ℕ} (ht : t < 200) (hk : k < 201) (s : State Ideal) (r : Fin 201) (b : Fin 8) (l : Fin 1536) :
    b87 (t * 201 + k) s (ix3 r b l)
      = if k = 200 ∧ r.val = t + 1 then b78 (t * 201 + k) s (ix2 b l) else s.main_v14_6 (ix3 r b l) := by
  have hs : b86 (t * 201 + k) s (ix3 r b l)
      = if r.val = t + 1 then b78 (t * 201 + k) s (ix2 b l) else s.main_v14_6 (ix3 r b l) := by
    unfold b86
    exact set_slab _ _ _ _ _ (at_proj ht hk s _) r b l
  show (if b71 (t * 201 + k) s _ = 1 then b86 (t * 201 + k) s (ix3 r b l) else s.main_v14_6 (ix3 r b l)) = _
  rw [last_eq ht hk, hs]
  by_cases h : k = 200
  · rw [decide_eq_true h]
    refine (if_pos rfl).trans ?_
    simp only [h, true_and]
  · rw [decide_eq_false h]
    refine (if_neg (by decide)).trans ?_
    rw [if_neg fun q => h q.1]

/-- The recorded hidden states after a trip, at an element. -/
theorem seq_after {t k : ℕ} (ht : t < 200) (hk : k < 201) (s : State Ideal) (r : Fin 201) (b : Fin 8) (l : Fin 512) :
    b98 (t * 201 + k) s (ix3 r b l)
      = if k = 200 ∧ r.val = t + 1 then b69 (t * 201 + k) s (ix2 b l) else s.main_v14_7 (ix3 r b l) := by
  have hs : b97 (t * 201 + k) s (ix3 r b l)
      = if r.val = t + 1 then b69 (t * 201 + k) s (ix2 b l) else s.main_v14_7 (ix3 r b l) := by
    unfold b97
    exact set_slab _ _ _ _ _ (at_seq ht hk s _) r b l
  show (if b71 (t * 201 + k) s _ = 1 then b97 (t * 201 + k) s (ix3 r b l) else s.main_v14_7 (ix3 r b l)) = _
  rw [last_eq ht hk, hs]
  by_cases h : k = 200
  · rw [decide_eq_true h]
    refine (if_pos rfl).trans ?_
    simp only [h, true_and]
  · rw [decide_eq_false h]
    refine (if_neg (by decide)).trans ?_
    rw [if_neg fun q => h q.1]

end Cert.Hand

end

end
-- ==== Proof.RefRun.lean ====
module

public import proofs.«01_k».proof.Proof.Gen.ReferenceIdeal.Run
public import proofs.«01_k».proof.Proof.Gen.ReferenceIdeal.Step
public import Idealize.ShloMosaic.Lib.Claim

/-! The reference's run, in the words of its step: what the loop carries is read off the buffers as one state, a trip of
the loop is one step of that state, and the result is computed from the state after the last trip. -/

@[expose] public section

set_option maxRecDepth 8192

noncomputable section

namespace Cert.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v14_6 step_main_v14_7 step_main_v14_8

variable {F : FTy → Type} [FloatOps F]

/-- What the loop carries, read off the buffers. -/
def carried (V : Valuation τ sig (Elt F)) : State F :=
  { main_v14_6 := V (Proc.devRef .tc main_v14_6)
    main_v14_7 := V (Proc.devRef .tc main_v14_7)
    main_v14_8 := V (Proc.devRef .tc main_v14_8)
    main_v14_0 := V (Proc.devRef .tc main_v14_0)
    main_v14_1 := V (Proc.devRef .tc main_v14_1)
    main_v14_2 := V (Proc.devRef .tc main_v14_2)
    main_v14_3 := V (Proc.devRef .tc main_v14_3) }

/-- The two counters of the loop stand at trip `j`. -/
def AtTrip (V : Valuation τ sig (Elt F)) (j : ℕ) : Prop :=
  V (Proc.devRef .tc main_v14_4) = constantI S_ 32 (BitVec.ofNat 32 j)
    ∧ V (Proc.devRef .tc main_v14_5) = constantI S_ 32 (BitVec.ofNat 32 j)

variable {V : Valuation τ sig (Elt F)} {j : ℕ}

/-- The outer number of a trip. -/
theorem trip_outer (h : AtTrip V j) : res_main_while0b_v21 V = b3 j (carried V) := by
  unfold res_main_while0b_v21 b3 b2
  rw [h.2]

/-- The inner number of a trip. -/
theorem trip_inner (h : AtTrip V j) : res_main_while0b_v22 V = b5 j (carried V) := by
  unfold res_main_while0b_v22 b5 b4
  rw [h.2]

/-- The inner number, as the slab to read. -/
theorem trip_start (h : AtTrip V j) : res_main_while0b_v23 V = b6 j (carried V) := by
  unfold res_main_while0b_v23 b6
  rw [trip_inner h]
  rfl

/-- The projections a trip reads. -/
theorem trip_slab (h : AtTrip V j) : res_main_while0b_v34 V = b29 j (carried V) := by
  unfold res_main_while0b_v34 b29 b28 b27 b26 b25 b24 b23 b22 b21 b20 b19 b18 b17 b16 b15 b14 b13 b12 b11 b10 b9 b8 b7
  rw [trip_start h]
  rfl

/-- The hidden state's product with its weights, and the bias. -/
theorem trip_product : res_main_while0b_v39 V = b34 j (carried V) := rfl

/-- The update gate of a trip. -/
theorem trip_gate (h : AtTrip V j) : res_main_while0b_v59 V = b58 j (carried V) := by
  unfold res_main_while0b_v59 b58 b57 b56 b55 b54 b53 b52 b51 b50 b39 b36
  rw [trip_slab h, trip_product (j := j)]

/-- The hidden state a trip leaves. -/
theorem trip_hidden (h : AtTrip V j) : res_main_while0b_v69 V = b69 j (carried V) := by
  unfold res_main_while0b_v69 b69 b68 b67 b66 b65 b64 b63 b62 b61 b60 b59 b49 b48 b47 b46 b45 b44 b43 b42 b41 b40 b38 b37 b35
  rw [trip_gate h, trip_slab h, trip_product (j := j), trip_outer h, trip_inner h]
  rfl

/-- Whether a trip is the last of its row. -/
theorem trip_last (h : AtTrip V j) : res_main_while0b_v70 V = b71 j (carried V) := by
  unfold res_main_while0b_v70 b71 b70
  rw [trip_inner h]

/-- The position after the outer number. -/
theorem trip_next (h : AtTrip V j) : res_main_while0b_v71 V = b73 j (carried V) := by
  unfold res_main_while0b_v71 b73 b72
  rw [trip_outer h]

/-- The position after the outer number, computed again. -/
theorem trip_next' (h : AtTrip V j) : res_main_while0b_v84 V = b89 j (carried V) := by
  unfold res_main_while0b_v84 b89 b88
  rw [trip_outer h]

/-- The projections a trip leaves. -/
theorem trip_proj (h : AtTrip V j) : step_main_v14_6 V = b87 j (carried V) := by
  unfold step_main_v14_6 b87 b86 b85 b84 b83 b82 b81 b80 b79 b78 b77 b76 b75 b74
  rw [trip_last h, trip_next h, trip_hidden h]
  rfl

/-- The recorded hidden states a trip leaves. -/
theorem trip_seq (h : AtTrip V j) : step_main_v14_7 V = b98 j (carried V) := by
  unfold step_main_v14_7 b98 b97 b96 b95 b94 b93 b92 b91 b90
  rw [trip_last h, trip_next' h, trip_hidden h]
  rfl

/-- One trip of the loop is one step of what it carries. -/
theorem carried_trip (h : AtTrip V j) : carried (STEP V) = step j (carried V) := by
  unfold step
  rw [← trip_proj h, ← trip_seq h, ← trip_hidden h]
  unfold carried
  rw [STEP_main_v14_0, STEP_main_v14_1, STEP_main_v14_2, STEP_main_v14_3, STEP_main_v14_6, STEP_main_v14_7,
    STEP_main_v14_8]
  rfl

/-- One trip of the loop moves both counters on by one. -/
theorem atTrip_next (h : AtTrip V j) : AtTrip (STEP V) (j + 1) := by
  have e : (addi (constantI S_ 32 (BitVec.ofNat 32 j)) (constantI S_ 32 1#32)) = constantI S_ 32 (BitVec.ofNat 32 (j + 1)) := by
    funext i
    show BitVec.ofNat 32 j + 1#32 = BitVec.ofNat 32 (j + 1)
    rw [BitVec.ofNat_add]
  refine ⟨?_, ?_⟩
  · rw [STEP_main_v14_4]
    unfold step_main_v14_4
    rw [h.1]
    exact e
  · rw [STEP_main_v14_5]
    unfold step_main_v14_5
    rw [h.2]
    exact e

variable (m : (ℓ : Loc nD τ sig) → Buf (Elt F) ℓ) (ρ : Dev nD → PrngReg)

/-- The loop's first state, of the arguments. -/
def firstState (c : Dev nD) : State F :=
  init (m ((c.tc : Thread nD τ).loc main_arg0)) (m ((c.tc : Thread nD τ).loc main_arg3))
    (m ((c.tc : Thread nD τ).loc main_arg5)) (m ((c.tc : Thread nD τ).loc main_arg2))
    (m ((c.tc : Thread nD τ).loc main_arg4)) (m ((c.tc : Thread nD τ).loc main_arg1))

set_option maxRecDepth 65536 in
/-- The loop starts with `main_v14_6` as the operations before it make it. -/
theorem start_6 (c : Dev nD) : entryContents preI m c (Proc.devRef .tc main_v14_6)
    = A_main_v10 (m ((c.tc : Thread nD τ).loc main_arg1)) (m ((c.tc : Thread nD τ).loc main_arg2)) (m ((c.tc : Thread nD τ).loc main_arg4)) := by
  simp only [entryContents, afterL_cons, afterL_nil]
  after_reads_simp
  unfold A_main_v10 A_main_v8 A_main_v7 A_main_v6 A_main_v5 A_main_v4 A_main_v2 A_main_v1 A_main_v0 K_main_v9 K_main_v3 K_main_c K_main_cst
  simp only [launchContents_devRef, id_eq]
  refine congrArg (Host.scatter _ _ _ _) ?_
  refine congrArg (fun u => addf u _) ?_
  refine congrArg (fun u => Host.dotGeneral _ _ u _) ?_
  rfl

set_option maxRecDepth 65536 in
/-- The loop starts with `main_v14_7` as the operations before it make it. -/
theorem start_7 (c : Dev nD) : entryContents preI m c (Proc.devRef .tc main_v14_7)
    = A_main_v13 (m ((c.tc : Thread nD τ).loc main_arg1)) (m ((c.tc : Thread nD τ).loc main_arg2)) (m ((c.tc : Thread nD τ).loc main_arg4)) := by
  simp only [entryContents, afterL_cons, afterL_nil]
  after_reads_simp
  unfold A_main_v13 A_main_v2 A_main_v1 A_main_v0 K_main_v12 K_main_v11 K_main_c_1 K_main_cst_0
  simp only [launchContents_devRef, id_eq]
  refine congrArg (Host.scatter _ _ _ _) ?_
  rfl

set_option maxRecDepth 65536 in
/-- The loop starts with the features as its hidden state, and with the weights and biases. -/
theorem start_rest (c : Dev nD) :
    entryContents preI m c (Proc.devRef .tc main_v14_8) = m ((c.tc : Thread nD τ).loc main_arg0)
    ∧ entryContents preI m c (Proc.devRef .tc main_v14_0) = m ((c.tc : Thread nD τ).loc main_arg3)
    ∧ entryContents preI m c (Proc.devRef .tc main_v14_1) = m ((c.tc : Thread nD τ).loc main_arg5)
    ∧ entryContents preI m c (Proc.devRef .tc main_v14_2) = m ((c.tc : Thread nD τ).loc main_arg2)
    ∧ entryContents preI m c (Proc.devRef .tc main_v14_3) = m ((c.tc : Thread nD τ).loc main_arg4) := by
  simp only [entryContents, afterL_cons, afterL_nil]
  refine ⟨?_, ?_, ?_, ?_, ?_⟩ <;> (after_reads_simp; rfl)

/-- What the operations before the loop leave in the buffers it carries. -/
theorem carried_start (c : Dev nD) : carried (entryContents preI m c) = firstState m c := by
  unfold carried firstState init
  obtain ⟨e8, e0, e1, e2, e3⟩ := start_rest m c
  rw [start_6, start_7, e8, e0, e1, e2, e3]

set_option maxRecDepth 65536 in
/-- Both counters start at zero. -/
theorem atTrip_start (c : Dev nD) : AtTrip (entryContents preI m c) 0 := by
  constructor <;> (simp only [entryContents, afterL_cons, afterL_nil]; after_reads_simp) <;> rfl

/-- The state of the loop before trip `n`, starting from `s₀`. -/
def states (s₀ : State F) : ℕ → State F
  | 0 => s₀
  | n + 1 => step n (states s₀ n)

/-- The buffers before trip `n` carry state `n`, and the counters stand at `n`. -/
theorem carried_states (c : Dev nD) : ∀ n, carried (STEP^[n] (entryContents preI m c)) = states (firstState m c) n
      ∧ AtTrip (STEP^[n] (entryContents preI m c)) n
  | 0 => ⟨carried_start m c, atTrip_start m c⟩
  | n + 1 => by
    obtain ⟨e, h⟩ := carried_states c n
    rw [Function.iterate_succ_apply']
    refine ⟨(carried_trip h).trans ?_, atTrip_next h⟩
    rw [e]
    rfl

/-- The reference's result is computed from the state after the last trip, and its arguments are unchanged. -/
theorem reference_value : θ_run (defs (F := F)) (onTc (τ := τ) (main (F := F))) ⟨m, fun _ => 0, ρ⟩ fun r => ∀ c : Dev nD,
      r.2.mem ((c.tc : Thread nD τ).loc main_v19)
        = R_main_v19 (states (firstState m c) 40200) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Cert.ReferenceIdeal.Value.run m ρ)
  rw [← (carried_states m c 40200).1]
  unfold out_main_v19 R_main_v19 carried
  rw [iter_main_arg6, iter_main_arg7]

end Cert.Hand

end

end
-- ==== Proof.RefState.lean ====
module

public import proofs.«01_k».proof.Proof.RefIndex
public import proofs.«01_k».proof.Proof.RefRun

/-! The reference's loop, trip by trip, against the kernel's recurrence: 201 trips of the one are one outer trip of the
other. -/

@[expose] public section

noncomputable section

namespace Cert.Hand

open Idealize.ShloMosaic
open Cert.ReferenceIdeal.Step Cert.KernelIdeal.Gen

/-- The reference's state inside outer trip `t`, after `k` inner trips: its hidden state is the kernel's after
    `min k (t + 1)` cells, and the positions up to `t` hold what the kernel has recorded there. -/
structure Follows (a : KernelIdeal.Hand.Args Ideal) (s : State Ideal) (t k : ℕ) : Prop where
  hid : s.main_v14_8 = KernelIdeal.Hand.cells a (KernelIdeal.Hand.st a t).xp (KernelIdeal.Hand.st a t).h (min k (t + 1))
  proj : ∀ r : Fin 201, r.val ≤ t → ∀ (b : Fin 8) (l : Fin 1536),
    s.main_v14_6 (ix3 r b l) = (KernelIdeal.Hand.st a t).xp r.val (ix3 0 b l)
  seq : ∀ r : Fin 201, r.val ≤ t → ∀ (b : Fin 8) (l : Fin 512),
    s.main_v14_7 (ix3 r b l) = (KernelIdeal.Hand.st a t).sq r.val (ix2 b l)
  whh : tr s.main_v14_0 = a.whh
  bhh : row s.main_v14_1 = a.bhh
  wih : tr s.main_v14_2 = a.wih
  bih : row s.main_v14_3 = a.bih

/-- A trip leaves the weights and biases as they are. -/
theorem step_weights (j : ℕ) (s : State Ideal) : (step j s).main_v14_0 = s.main_v14_0
    ∧ (step j s).main_v14_1 = s.main_v14_1 ∧ (step j s).main_v14_2 = s.main_v14_2
    ∧ (step j s).main_v14_3 = s.main_v14_3 := by
  unfold step
  exact ⟨rfl, rfl, rfl, rfl⟩

variable {a : KernelIdeal.Hand.Args Ideal} {s : State Ideal} {t k : ℕ}

/-- The hidden state an inner trip leaves: one more cell where `k ≤ t`, unchanged afterwards. -/
theorem hidden_step (h : Follows a s t k) (ht : t < 200) (hk : k < 201) :
    b69 (t * 201 + k) s
      = KernelIdeal.Hand.cells a (KernelIdeal.Hand.st a t).xp (KernelIdeal.Hand.st a t).h (min (k + 1) (t + 1)) := by
  rw [keep_eq ht hk]
  by_cases hkt : k ≤ t
  · have hX : b28 (t * 201 + k) s = (KernelIdeal.Hand.st a t).xp k := by
      funext i
      obtain ⟨z, b, l, rfl⟩ : ∃ (z : Fin 1) (b : Fin 8) (l : Fin 1536), i = ix3 z b l := ⟨i 0, i 1, i 2, eq_ix3 i⟩
      obtain rfl : z = 0 := Subsingleton.elim _ _
      rw [slab_eq ht hk]
      exact h.proj ⟨k, hk⟩ hkt b l
    rw [if_pos hkt, ← cell_eq (t * 201 + k) s _ hX, h.whh, h.bhh, h.hid,
      show min k (t + 1) = k by omega, show min (k + 1) (t + 1) = k + 1 by omega]
    rfl
  · rw [if_neg hkt, h.hid, show min k (t + 1) = min (k + 1) (t + 1) by omega]

/-- An inner trip that is not the last of its row. -/
theorem follows_inner (h : Follows a s t k) (ht : t < 200) (hk : k < 200) :
    Follows a (step (t * 201 + k) s) t (k + 1) where
  hid := (step_main_v14_8 _ s).trans (hidden_step h ht (by omega))
  proj r hr b l := by
    rw [step_main_v14_6, proj_after ht (by omega), if_neg (by omega)]
    exact h.proj r hr b l
  seq r hr b l := by
    rw [step_main_v14_7, seq_after ht (by omega), if_neg (by omega)]
    exact h.seq r hr b l
  whh := by rw [(step_weights _ s).1, h.whh]
  bhh := by rw [(step_weights _ s).2.1, h.bhh]
  wih := by rw [(step_weights _ s).2.2.1, h.wih]
  bih := by rw [(step_weights _ s).2.2.2, h.bih]

/-- The last inner trip of a row: the hidden state is projected and recorded at position `t + 1`. -/
theorem follows_last (h : Follows a s t 200) (ht : t < 200) :
    Follows a (step (t * 201 + 200) s) (t + 1) 0 := by
  have hh := hidden_step h ht (by decide)
  rw [show min (200 + 1) (t + 1) = t + 1 by omega] at hh
  refine ⟨?_, fun r hr b l => ?_, fun r hr b l => ?_, ?_, ?_, ?_, ?_⟩
  · exact (step_main_v14_8 _ s).trans hh
  · rw [step_main_v14_6, proj_after ht (by decide)]
    by_cases e : r.val = t + 1
    · rw [if_pos ⟨rfl, e⟩, ← projection_eq, h.wih, h.bih, hh, e]
      show _ = Function.update (KernelIdeal.Hand.st a t).xp (t + 1) _ (t + 1) _
      rw [Function.update_self]
    · rw [if_neg fun q => e q.2, h.proj r (by omega)]
      show _ = Function.update (KernelIdeal.Hand.st a t).xp (t + 1) _ r.val _
      rw [Function.update_of_ne e]
  · rw [step_main_v14_7, seq_after ht (by decide)]
    by_cases e : r.val = t + 1
    · rw [if_pos ⟨rfl, e⟩, hh, e]
      show _ = Function.update (KernelIdeal.Hand.st a t).sq (t + 1) _ (t + 1) _
      rw [Function.update_self]
      unfold k0_pay11
      rw [shapeCast_self]
    · rw [if_neg fun q => e q.2, h.seq r (by omega)]
      show _ = Function.update (KernelIdeal.Hand.st a t).sq (t + 1) _ r.val _
      rw [Function.update_of_ne e]
  · rw [(step_weights _ s).1, h.whh]
  · rw [(step_weights _ s).2.1, h.bhh]
  · rw [(step_weights _ s).2.2.1, h.wih]
  · rw [(step_weights _ s).2.2.2, h.bih]

/-- Inside a row the states follow. -/
theorem follows_row {s₀ : State Ideal} (h : Follows a (states s₀ (t * 201)) t 0) (ht : t < 200) :
    ∀ k, k ≤ 200 → Follows a (states s₀ (t * 201 + k)) t k
  | 0, _ => h
  | k + 1, hk => follows_inner (follows_row h ht k (by omega)) ht (by omega)

/-- Row after row the states follow. -/
theorem follows_rows {s₀ : State Ideal} (h : Follows a s₀ 0 0) : ∀ t, t ≤ 200 → Follows a (states s₀ (t * 201)) t 0
  | 0, _ => by rw [Nat.zero_mul]; exact h
  | t + 1, ht => by
    rw [show (t + 1) * 201 = t * 201 + 200 + 1 by omega]
    exact follows_last (follows_row (follows_rows h t (by omega)) (by omega) 200 (by decide)) (by omega)

/-- The loop's first state follows: position 0 holds the start embedding and its projection. -/
theorem follows_start (x : Vec Ideal ReferenceIdeal.S8x512 .f32) (e : Vec Ideal ReferenceIdeal.S113x512 .f32)
    (wih whh : Vec Ideal ReferenceIdeal.S1536x512 .f32) (bih bhh : Vec Ideal ReferenceIdeal.S1536 .f32) :
    Follows ⟨x, first e, tr wih, tr whh, row bih, row bhh⟩ (init x whh bhh wih bih e) 0 0 := by
  refine ⟨rfl, fun r hr b l => ?_, fun r hr b l => ?_, rfl, rfl, rfl, rfl⟩
  · unfold init
    dsimp only
    unfold A_main_v10
    refine (set_slab _ _ _ _ 0 rfl r b l).trans ?_
    rw [if_pos (by omega)]
    exact (first_projection_eq e wih bih b l).symm
  · unfold init
    dsimp only
    unfold A_main_v13
    refine (set_slab _ _ _ _ 0 rfl r b l).trans ?_
    rw [if_pos (by omega)]
    exact (first_block_eq e wih bih b l).symm

/-- After all 40200 trips every position's hidden state is the one the kernel recorded there. -/
theorem recorded_eq (x : Vec Ideal ReferenceIdeal.S8x512 .f32) (e : Vec Ideal ReferenceIdeal.S113x512 .f32)
    (wih whh : Vec Ideal ReferenceIdeal.S1536x512 .f32) (bih bhh : Vec Ideal ReferenceIdeal.S1536 .f32)
    (r : Fin 201) (b : Fin 8) (l : Fin 512) :
    (states (init x whh bhh wih bih e) 40200).main_v14_7 (ix3 r b l)
      = (KernelIdeal.Hand.st ⟨x, first e, tr wih, tr whh, row bih, row bhh⟩ 200).sq r.val (ix2 b l) :=
  (follows_rows (follows_start x e wih whh bih bhh) 200 le_rfl).seq r (by omega) b l

end Cert.Hand

end

end
-- ==== Proof.Claims.lean ====
module

public import proofs.«01_k».proof.Defs
public import proofs.«01_k».proof.Proof.Same
public import proofs.«01_k».proof.Proof.KernelValue
public import proofs.«01_k».proof.Proof.RefState

/-! The reference's frame, and the value claim: both programs end with the same scores. -/

@[expose] public section

noncomputable section

namespace Cert.Hand

open Idealize.ShloMosaic Idealize.ShloMosaic.TcCoe Idealize.SL.Sem

/-- The scores of the arguments: the kernel's output block, unpacked. -/
def scores (x : Vec Ideal KernelIdeal.S8x512 .f32) (e : Vec Ideal KernelIdeal.S113x512 .f32)
    (wih whh : Vec Ideal KernelIdeal.S1536x512 .f32) (bih bhh : Vec Ideal KernelIdeal.S1536 .f32)
    (w : Vec Ideal KernelIdeal.S113x512 .f32) (b : Vec Ideal KernelIdeal.S113 .f32) : Vec Ideal KernelIdeal.S8x113x201 .f32 :=
  unpack (KernelIdeal.Hand.outBlock ⟨x, first e, tr wih, tr whh, row bih, row bhh⟩ (padW w) (padB b))

/-- The reference computes these scores from its state after the last trip. -/
theorem scores_of_states (x : Vec Ideal KernelIdeal.S8x512 .f32) (e : Vec Ideal KernelIdeal.S113x512 .f32)
    (wih whh : Vec Ideal KernelIdeal.S1536x512 .f32) (bih bhh : Vec Ideal KernelIdeal.S1536 .f32)
    (w : Vec Ideal KernelIdeal.S113x512 .f32) (b : Vec Ideal KernelIdeal.S113 .f32) :
    scores x e wih whh bih bhh w b
      = ReferenceIdeal.Step.R_main_v19 (states (ReferenceIdeal.Step.init x whh bhh wih bih e) 40200) w b :=
  scores_eq _ _ w b fun r c l => recorded_eq x e wih whh bih bhh r c l

/-- The reference at the ideal instance ends with its arguments unchanged and its counters at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (reference_value (F := Ideal) m ρ)

/-- From equal arguments the kernel and the reference end with equal results, their arguments unchanged. -/
theorem algebraic : Cert.algebraic_KernelIdeal_ReferenceIdeal := by
  intro m g m' g' _ same
  refine ⟨fun c => unpack (KernelIdeal.Hand.outBlock (handed m c) (padW (m ((c.tc : Thread KernelIdeal.nD KernelIdeal.τ).loc KernelIdeal.main_arg6)))
      (padB (m ((c.tc : Thread KernelIdeal.nD KernelIdeal.τ).loc KernelIdeal.main_arg7)))), ?_, ?_⟩
  · exact (θ_run KernelIdeal.defs _ _).mono (fun r h c => ⟨h.1 c, h.2.1 c⟩)
      (θ_run_and (kernel_value m g) (KernelIdeal.Hand.frame_all (F := Ideal) m g))
  · refine (θ_run ReferenceIdeal.defs _ _).mono (fun r h c => ⟨(h c).1.trans ?_, (h c).2⟩)
      (reference_value (F := Ideal) m' g')
    obtain ⟨e0, e1, e2, e3, e4, e5, e6, e7⟩ := same c
    unfold firstState
    rw [e0, e1, e2, e3, e4, e5, e6, e7]
    exact (scores_of_states _ _ _ _ _ _ _ _).symm

end Cert.Hand

end

end
-- ==== Proof.lean ====
module

public import proofs.«01_k».proof.Defs
public import proofs.«01_k».proof.Proof.Claims

@[expose] public section

/-- Every claim of the certificate. -/
theorem Cert.Proof.claim : Cert.Claim :=
  ⟨Cert.Kernel.Gen.facts, Cert.KernelIdeal.Gen.facts, Cert.ReferenceIdeal.Gen.facts, Cert.Hand.frame_kernel,
    Cert.Hand.frame_ideal, Cert.Hand.frame_reference, trivial, Cert.Hand.algebraic⟩

end
